-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_nb" .f32 0x3A4CCCCD#32 ((1 / 1280 : ℝ) : EReal)

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v210) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S64x300x91 : Shape := ⟨3, ![64, 300, 91]⟩
abbrev S64x300x4 : Shape := ⟨3, ![64, 300, 4]⟩
abbrev S64x20x4 : Shape := ⟨3, ![64, 20, 4]⟩
abbrev S64x20 : Shape := ⟨2, ![64, 20]⟩
abbrev S_ : Shape := ⟨0, ![]⟩
abbrev S64x300x2 : Shape := ⟨3, ![64, 300, 2]⟩

class Facts : Prop where
  bcast_S_S64x300x91 : S_.BroadcastsInDim S64x300x91 (![] : Fin 0 → Fin S64x300x91.rank)
  slices_S64x300x4_S64x300x2_0_0_0 : S64x300x4.Slices ![0, 0, 0] S64x300x2
  bcast_S_S64x300x2 : S_.BroadcastsInDim S64x300x2 (![] : Fin 0 → Fin S64x300x2.rank)
  slices_S64x300x4_S64x300x2_0_0_2 : S64x300x4.Slices ![0, 0, 2] S64x300x2
  bcast_S_S64x20 : S_.BroadcastsInDim S64x20 (![] : Fin 0 → Fin S64x20.rank)

variable [Facts]

def fn_part1 {F : FTy → Type} [FloatOps F] (main_arg4 : IVec S64x20 32) (main_v2 : IVec S64x300x91 1) (main_v6 : IVec S64x300x2 1) (main_v9 : IVec S64x300x2 1) (main_v11 : IVec S64x20 1) (main_v13 : IVec S64x20 1) (main_v15 : IVec S64x20 1) (main_v16 : IVec S64x20 32) : IVec S64x300x91 1 × IVec S64x300x2 1 × IVec S64x300x2 1 × IVec S64x20 1 × IVec S64x20 1 × IVec S64x20 1 × IVec S64x20 1 :=
  let main_v17 : IVec S64x20 1 := cmpi .slt main_arg4 main_v16
  (main_v2, main_v6, main_v9, main_v11, main_v13, main_v15, main_v17)

def fn {F : FTy → Type} [FloatOps F] (main_arg0 : FVec F S64x300x91 .f32) (main_arg1 : FVec F S64x300x4 .f32) (main_arg2 : FVec F S64x20x4 .f32) (main_arg3 : IVec S64x20 32) (main_arg4 : IVec S64x20 32) : IVec S64x300x91 1 × IVec S64x300x2 1 × IVec S64x300x2 1 × IVec S64x20 1 × IVec S64x20 1 × IVec S64x20 1 × IVec S64x20 1 :=
  let main_v0 : FVec F S64x300x91 .f32 := Host.absf main_arg0
  let main_cst : FVec F S_ .f32 := constant S_ .f32 0x7F800000#32
  let main_v1 : FVec F S64x300x91 .f32 := broadcastInDim S64x300x91 ![] bcast_S_S64x300x91 main_cst
  let main_v2 : IVec S64x300x91 1 := cmpf .olt main_v0 main_v1
  let main_v3 : FVec F S64x300x2 .f32 := (extractStridedSlice S64x300x2 ![0, 0, 0] · slices_S64x300x4_S64x300x2_0_0_0) main_arg1
  let main_v4 : FVec F S64x300x2 .f32 := Host.absf main_v3
  let main_cst_0 : FVec F S_ .f32 := constant S_ .f32 0x7F800000#32
  let main_v5 : FVec F S64x300x2 .f32 := broadcastInDim S64x300x2 ![] bcast_S_S64x300x2 main_cst_0
  let main_v6 : IVec S64x300x2 1 := cmpf .olt main_v4 main_v5
  let main_v7 : FVec F S64x300x2 .f32 := (extractStridedSlice S64x300x2 ![0, 0, 2] · slices_S64x300x4_S64x300x2_0_0_2) main_arg1
  let main_cst_1 : FVec F S_ .f32 := constant S_ .f32 0x00000000#32
  let main_v8 : FVec F S64x300x2 .f32 := broadcastInDim S64x300x2 ![] bcast_S_S64x300x2 main_cst_1
  let main_v9 : IVec S64x300x2 1 := cmpf .oge main_v7 main_v8
  let main_c : IVec S_ 32 := constantI S_ 32 0#32
  let main_v10 : IVec S64x20 32 := broadcastInDim S64x20 ![] bcast_S_S64x20 main_c
  let main_v11 : IVec S64x20 1 := cmpi .sge main_arg3 main_v10
  let main_c_2 : IVec S_ 32 := constantI S_ 32 300#32
  let main_v12 : IVec S64x20 32 := broadcastInDim S64x20 ![] bcast_S_S64x20 main_c_2
  let main_v13 : IVec S64x20 1 := cmpi .slt main_arg3 main_v12
  let main_c_3 : IVec S_ 32 := constantI S_ 32 0#32
  let main_v14 : IVec S64x20 32 := broadcastInDim S64x20 ![] bcast_S_S64x20 main_c_3
  let main_v15 : IVec S64x20 1 := cmpi .sge main_arg4 main_v14
  let main_c_4 : IVec S_ 32 := constantI S_ 32 91#32
  let main_v16 : IVec S64x20 32 := broadcastInDim S64x20 ![] bcast_S_S64x20 main_c_4
  fn_part1 (F := F) main_arg4 main_v2 main_v6 main_v9 main_v11 main_v13 main_v15 main_v16
-- ==== Kernel.lean ====
abbrev S64x300x91 : Shape := ⟨3, ![64, 300, 91]⟩
abbrev S64x300x4 : Shape := ⟨3, ![64, 300, 4]⟩
abbrev S64x20x4 : Shape := ⟨3, ![64, 20, 4]⟩
abbrev S64x20 : Shape := ⟨2, ![64, 20]⟩
abbrev S91x64x300 : Shape := ⟨3, ![91, 64, 300]⟩
abbrev S20x64 : Shape := ⟨2, ![20, 64]⟩
abbrev S64x4x300 : Shape := ⟨3, ![64, 4, 300]⟩
abbrev S20x4x64 : Shape := ⟨3, ![20, 4, 64]⟩
abbrev S1x1 : Shape := ⟨2, ![1, 1]⟩
abbrev S91x16x300 : Shape := ⟨3, ![91, 16, 300]⟩
abbrev S64x300 : Shape := ⟨2, ![64, 300]⟩
abbrev S20x64x300 : Shape := ⟨3, ![20, 64, 300]⟩
abbrev S20x64x1 : Shape := ⟨3, ![20, 64, 1]⟩
abbrev S64x1x300 : Shape := ⟨3, ![64, 1, 300]⟩
abbrev S1x64x300 : Shape := ⟨3, ![1, 64, 300]⟩
abbrev S20x1x64 : Shape := ⟨3, ![20, 1, 64]⟩
abbrev S1x20x64 : Shape := ⟨3, ![1, 20, 64]⟩
abbrev S1 : Shape := ⟨1, ![1]⟩
abbrev S1x1x1 : Shape := ⟨3, ![1, 1, 1]⟩
abbrev S16x300 : Shape := ⟨2, ![16, 300]⟩
abbrev S1x16x300 : Shape := ⟨3, ![1, 16, 300]⟩
abbrev S1x91x16x300 : Shape := ⟨4, ![1, 91, 16, 300]⟩
abbrev S1x1x1x1 : Shape := ⟨4, ![1, 1, 1, 1]⟩
abbrev S_ : Shape := ⟨0, ![]⟩

abbrev nBuf : Space → Nat
  | .hbm => 16
  | .vmem => 10
  | .smem => 0
  | _ => 0

abbrev bufTy : (tb : Table) → Fin (tcTables nBuf tb) → BufTy
  | .hbm, ⟨0, _⟩ => ⟨S64x300x91, .f32⟩
  | .hbm, ⟨1, _⟩ => ⟨S64x300x4, .f32⟩
  | .hbm, ⟨2, _⟩ => ⟨S64x20x4, .f32⟩
  | .hbm, ⟨3, _⟩ => ⟨S64x20, .i32⟩
  | .hbm, ⟨4, _⟩ => ⟨S64x20, .i32⟩
  | .hbm, ⟨5, _⟩ => ⟨S91x64x300, .f32⟩
  | .hbm, ⟨6, _⟩ => ⟨S20x64, .i32⟩
  | .hbm, ⟨7, _⟩ => ⟨S20x64, .i32⟩
  | .hbm, ⟨8, _⟩ => ⟨S64x4x300, .f32⟩
  | .hbm, ⟨9, _⟩ => ⟨S20x4x64, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S91x16x300, .f32⟩
  | .local _ .vmem, ⟨1, _⟩ => ⟨S91x16x300, .f32⟩
  | .local _ .vmem, ⟨2, _⟩ => ⟨S20x64, .i32⟩
  | .local _ .vmem, ⟨3, _⟩ => ⟨S20x64, .i32⟩
  | .local _ .vmem, ⟨4, _⟩ => ⟨S64x4x300, .f32⟩
  | .local _ .vmem, ⟨5, _⟩ => ⟨S20x4x64, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S64x300, .i32⟩
  | _, _ => ⟨S64x300x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![4], ![false]⟩

def k0_mult1 (i : grid0.Coords) : BitVec 32 :=
  let arg0 : BitVec 32 := BitVec.ofNat 32 (i 0).val
  let c16_i32 : BitVec 32 := 16#32
  let v5 : BitVec 32 := Scalar.muli arg0 c16_i32
  v5
def k0_off1 (i : grid0.Coords) : Fin 2 → Nat :=
  let arg0 : BitVec 32 := BitVec.ofNat 32 (i 0).val
  let c16_i32 : BitVec 32 := 16#32
  let v5 : BitVec 32 := Scalar.muli arg0 c16_i32
  let v6 : BitVec 32 := v5
  let v7 : Index := Scalar.indexCast v6
  let c0_3 : Index := 0#32
  ![v7.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S91x16x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x64 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "inv_nb" => some ((1 / 1280 : ℝ) : EReal)
  | _ => none
-- ==== ReferenceIdeal.lean ====
abbrev S64x300x91 : Shape := ⟨3, ![64, 300, 91]⟩
abbrev S64x300x4 : Shape := ⟨3, ![64, 300, 4]⟩
abbrev S64x20x4 : Shape := ⟨3, ![64, 20, 4]⟩
abbrev S64x20 : Shape := ⟨2, ![64, 20]⟩
abbrev S64 : Shape := ⟨1, ![64]⟩
abbrev S64x1 : Shape := ⟨2, ![64, 1]⟩
abbrev S_ : Shape := ⟨0, ![]⟩
abbrev S64x300 : Shape := ⟨2, ![64, 300]⟩
abbrev S64x20x1 : Shape := ⟨3, ![64, 20, 1]⟩
abbrev S64x20x2 : Shape := ⟨3, ![64, 20, 2]⟩
abbrev S64x300x1 : Shape := ⟨3, ![64, 300, 1]⟩
abbrev S1x1x92 : Shape := ⟨3, ![1, 1, 92]⟩
abbrev S64x300x92 : Shape := ⟨3, ![64, 300, 92]⟩
abbrev S64x91 : Shape := ⟨2, ![64, 91]⟩
abbrev S1 : Shape := ⟨1, ![1]⟩
abbrev S1x1x1 : Shape := ⟨3, ![1, 1, 1]⟩
abbrev S1280x4 : Shape := ⟨2, ![1280, 4]⟩
abbrev S1280x1 : Shape := ⟨2, ![1280, 1]⟩
abbrev S1280 : Shape := ⟨1, ![1280]⟩
abbrev S1280x2 : Shape := ⟨2, ![1280, 2]⟩
abbrev S1280x1x2 : Shape := ⟨3, ![1280, 1, 2]⟩
abbrev S1x1280x2 : Shape := ⟨3, ![1, 1280, 2]⟩
abbrev S1280x1280x2 : Shape := ⟨3, ![1280, 1280, 2]⟩
abbrev S1280x1280x1 : Shape := ⟨3, ![1280, 1280, 1]⟩
abbrev S1280x1280 : Shape := ⟨2, ![1280, 1280]⟩
abbrev S1x1280 : Shape := ⟨2, ![1, 1280]⟩

abbrev nBuf : Space → Nat
  | .hbm => 287
  | .vmem => 0
  | .smem => 0
  | _ => 0

abbrev hbmTy0_0 (i : Nat) : BufTy := match i % 128 with
  | 0 => ⟨S64x300x91, .f32⟩
  | 1 => ⟨S64x300x4, .f32⟩
  | 2 => ⟨S64x20x4, .f32⟩
  | 3 => ⟨S64x20, .i32⟩
  | 4 => ⟨S64x20, .i32⟩
  | 5 => ⟨S64, .i32⟩
  | 6 => ⟨S64x1, .i32⟩
  | 7 => ⟨S_, .i32⟩
  | 8 => ⟨S64x300, .i32⟩
  | 9 => ⟨S_, .i32⟩
  | 10 => ⟨S64x1, .i32⟩
  | 11 => ⟨S64x1, .i1⟩
  | 12 => ⟨S_, .i32⟩
  | 13 => ⟨S64x1, .i32⟩
  | 14 => ⟨S64x1, .i32⟩
  | 15 => ⟨S64x1, .i32⟩
  | 16 => ⟨S_, .i32⟩
  | 17 => ⟨S64x20, .i32⟩
  | 18 => ⟨S64x20, .i1⟩
  | 19 => ⟨S_, .i32⟩
  | 20 => ⟨S64x20, .i32⟩
  | 21 => ⟨S64x20, .i32⟩
  | 22 => ⟨S64x20, .i32⟩
  | 23 => ⟨S64x20, .i32⟩
  | 24 => ⟨S64x20x1, .i32⟩
  | 25 => ⟨S64x20x1, .i32⟩
  | 26 => ⟨S64x20x2, .i32⟩
  | 27 => ⟨S64x300, .i32⟩
  | 28 => ⟨S64x300x1, .i32⟩
  | 29 => ⟨S1x1x92, .i32⟩
  | 30 => ⟨S64x300x92, .i32⟩
  | 31 => ⟨S64x300x92, .i32⟩
  | 32 => ⟨S64x300x92, .i1⟩
  | 33 => ⟨S64x300x92, .f32⟩
  | 34 => ⟨S64x300x91, .f32⟩
  | 35 => ⟨S64x300x91, .f32⟩
  | 36 => ⟨S64x300x91, .f32⟩
  | 37 => ⟨S_, .f32⟩
  | 38 => ⟨S64x300x91, .f32⟩
  | 39 => ⟨S64x300x91, .f32⟩
  | 40 => ⟨S_, .f32⟩
  | 41 => ⟨S64x300x91, .f32⟩
  | 42 => ⟨S64x300x91, .f32⟩
  | 43 => ⟨S_, .f32⟩
  | 44 => ⟨S_, .f32⟩
  | 45 => ⟨S64x300x91, .f32⟩
  | 46 => ⟨S64x300x91, .f32⟩
  | 47 => ⟨S64x300x91, .f32⟩
  | 48 => ⟨S64x300x91, .f32⟩
  | 49 => ⟨S64x300x91, .f32⟩
  | 50 => ⟨S64x300x91, .f32⟩
  | 51 => ⟨S64x300x91, .f32⟩
  | 52 => ⟨S64x300x91, .f32⟩
  | 53 => ⟨S64x300x91, .f32⟩
  | 54 => ⟨S64x300x91, .f32⟩
  | 55 => ⟨S_, .f32⟩
  | 56 => ⟨S64x300x91, .f32⟩
  | 57 => ⟨S64x300x91, .f32⟩
  | 58 => ⟨S_, .f32⟩
  | 59 => ⟨S64x300x91, .f32⟩
  | 60 => ⟨S64x300x91, .f32⟩
  | 61 => ⟨S64x300x91, .f32⟩
  | 62 => ⟨S64x300x91, .f32⟩
  | 63 => ⟨S_, .f32⟩
  | 64 => ⟨S64x300x91, .f32⟩
  | 65 => ⟨S64x300x91, .f32⟩
  | 66 => ⟨S_, .f32⟩
  | 67 => ⟨S64x300x91, .f32⟩
  | 68 => ⟨S64x300x91, .f32⟩
  | 69 => ⟨S64x300x91, .f32⟩
  | 70 => ⟨S_, .f32⟩
  | 71 => ⟨S64x300x91, .f32⟩
  | 72 => ⟨S64x300x91, .f32⟩
  | 73 => ⟨S_, .f32⟩
  | 74 => ⟨S64x300x91, .f32⟩
  | 75 => ⟨S64x300x91, .f32⟩
  | 76 => ⟨S_, .f32⟩
  | 77 => ⟨S64x300x91, .f32⟩
  | 78 => ⟨S64x300x91, .f32⟩
  | 79 => ⟨S64x300x91, .f32⟩
  | 80 => ⟨S64x300x91, .f32⟩
  | 81 => ⟨S_, .f32⟩
  | 82 => ⟨S64x91, .f32⟩
  | 83 => ⟨S_, .f32⟩
  | 84 => ⟨S64x91, .f32⟩
  | 85 => ⟨S64x91, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S64x20x1, .i32⟩
  | 93 => ⟨S_, .i32⟩
  | 94 => ⟨S64x20x1, .i32⟩
  | 95 => ⟨S64x20x1, .i1⟩
  | 96 => ⟨S_, .i32⟩
  | 97 => ⟨S64x20x1, .i32⟩
  | 98 => ⟨S64x20x1, .i32⟩
  | 99 => ⟨S64x20x1, .i32⟩
  | 100 => ⟨S1, .i32⟩
  | 101 => ⟨S_, .i32⟩
  | 102 => ⟨S64x20x1, .i32⟩
  | 103 => ⟨S64x20x1, .i1⟩
  | 104 => ⟨S1x1x1, .i32⟩
  | 105 => ⟨S64x20x1, .i32⟩
  | 106 => ⟨S64x20x1, .i1⟩
  | 107 => ⟨S64x20x1, .i1⟩
  | 108 => ⟨S_, .i1⟩
  | 109 => ⟨S64x20, .i1⟩
  | 110 => ⟨S64x20x4, .f32⟩
  | 111 => ⟨S64x20x4, .i1⟩
  | 112 => ⟨S_, .f32⟩
  | 113 => ⟨S64x20x4, .f32⟩
  | 114 => ⟨S64x20x4, .f32⟩
  | 115 => ⟨S1280x4, .f32⟩
  | 116 => ⟨S1280x4, .f32⟩
  | 117 => ⟨S1280x4, .f32⟩
  | 118 => ⟨S1280x4, .f32⟩
  | 119 => ⟨S_, .f32⟩
  | 120 => ⟨S_, .f32⟩
  | 121 => ⟨S_, .f32⟩
  | 122 => ⟨S_, .f32⟩
  | 123 => ⟨S1280x1, .f32⟩
  | 124 => ⟨S1280, .f32⟩
  | 125 => ⟨S1280x1, .f32⟩
  | 126 => ⟨S1280, .f32⟩
  | 127 => ⟨S1280x1, .f32⟩
  | _ => ⟨S64x300x91, .f32⟩

abbrev hbmTy0_1 (i : Nat) : BufTy := match i % 128 with
  | 0 => ⟨S1280, .f32⟩
  | 1 => ⟨S1280x1, .f32⟩
  | 2 => ⟨S1280, .f32⟩
  | 3 => ⟨S_, .f32⟩
  | 4 => ⟨S1280, .f32⟩
  | 5 => ⟨S1280, .f32⟩
  | 6 => ⟨S1280, .f32⟩
  | 7 => ⟨S_, .f32⟩
  | 8 => ⟨S1280, .f32⟩
  | 9 => ⟨S1280, .f32⟩
  | 10 => ⟨S1280, .f32⟩
  | 11 => ⟨S_, .f32⟩
  | 12 => ⟨S1280, .f32⟩
  | 13 => ⟨S1280, .f32⟩
  | 14 => ⟨S1280, .f32⟩
  | 15 => ⟨S_, .f32⟩
  | 16 => ⟨S1280, .f32⟩
  | 17 => ⟨S1280, .f32⟩
  | 18 => ⟨S1280, .f32⟩
  | 19 => ⟨S1280x1, .f32⟩
  | 20 => ⟨S1280x1, .f32⟩
  | 21 => ⟨S1280x1, .f32⟩
  | 22 => ⟨S1280x1, .f32⟩
  | 23 => ⟨S1280x4, .f32⟩
  | 24 => ⟨S1280x1, .f32⟩
  | 25 => ⟨S1280, .f32⟩
  | 26 => ⟨S1280x1, .f32⟩
  | 27 => ⟨S1280, .f32⟩
  | 28 => ⟨S1280x1, .f32⟩
  | 29 => ⟨S1280, .f32⟩
  | 30 => ⟨S1280x1, .f32⟩
  | 31 => ⟨S1280, .f32⟩
  | 32 => ⟨S_, .f32⟩
  | 33 => ⟨S1280, .f32⟩
  | 34 => ⟨S1280, .f32⟩
  | 35 => ⟨S1280, .f32⟩
  | 36 => ⟨S_, .f32⟩
  | 37 => ⟨S1280, .f32⟩
  | 38 => ⟨S1280, .f32⟩
  | 39 => ⟨S1280, .f32⟩
  | 40 => ⟨S_, .f32⟩
  | 41 => ⟨S1280, .f32⟩
  | 42 => ⟨S1280, .f32⟩
  | 43 => ⟨S1280, .f32⟩
  | 44 => ⟨S_, .f32⟩
  | 45 => ⟨S1280, .f32⟩
  | 46 => ⟨S1280, .f32⟩
  | 47 => ⟨S1280, .f32⟩
  | 48 => ⟨S1280x1, .f32⟩
  | 49 => ⟨S1280x1, .f32⟩
  | 50 => ⟨S1280x1, .f32⟩
  | 51 => ⟨S1280x1, .f32⟩
  | 52 => ⟨S1280x4, .f32⟩
  | 53 => ⟨S1280x1, .f32⟩
  | 54 => ⟨S1280, .f32⟩
  | 55 => ⟨S1280x1, .f32⟩
  | 56 => ⟨S1280, .f32⟩
  | 57 => ⟨S1280, .f32⟩
  | 58 => ⟨S1280x1, .f32⟩
  | 59 => ⟨S1280, .f32⟩
  | 60 => ⟨S1280x1, .f32⟩
  | 61 => ⟨S1280, .f32⟩
  | 62 => ⟨S1280, .f32⟩
  | 63 => ⟨S1280, .f32⟩
  | 64 => ⟨S1280x1, .f32⟩
  | 65 => ⟨S1280, .f32⟩
  | 66 => ⟨S1280x1, .f32⟩
  | 67 => ⟨S1280, .f32⟩
  | 68 => ⟨S1280, .f32⟩
  | 69 => ⟨S1280x1, .f32⟩
  | 70 => ⟨S1280, .f32⟩
  | 71 => ⟨S1280x1, .f32⟩
  | 72 => ⟨S1280, .f32⟩
  | 73 => ⟨S1280, .f32⟩
  | 74 => ⟨S1280, .f32⟩
  | 75 => ⟨S1280x2, .f32⟩
  | 76 => ⟨S1280x1x2, .f32⟩
  | 77 => ⟨S1280x2, .f32⟩
  | 78 => ⟨S1x1280x2, .f32⟩
  | 79 => ⟨S1280x1280x2, .f32⟩
  | 80 => ⟨S1280x1280x2, .f32⟩
  | 81 => ⟨S1280x1280x2, .f32⟩
  | 82 => ⟨S1280x2, .f32⟩
  | 83 => ⟨S1280x1x2, .f32⟩
  | 84 => ⟨S1280x2, .f32⟩
  | 85 => ⟨S1x1280x2, .f32⟩
  | 86 => ⟨S1280x1280x2, .f32⟩
  | 87 => ⟨S1280x1280x2, .f32⟩
  | 88 => ⟨S1280x1280x2, .f32⟩
  | 89 => ⟨S1280x1280x2, .f32⟩
  | 90 => ⟨S_, .f32⟩
  | 91 => ⟨S_, .f32⟩
  | 92 => ⟨S1280x1280x2, .f32⟩
  | 93 => ⟨S1280x1280x2, .f32⟩
  | 94 => ⟨S1280x1280x1, .f32⟩
  | 95 => ⟨S1280x1280, .f32⟩
  | 96 => ⟨S1280x1280x1, .f32⟩
  | 97 => ⟨S1280x1280, .f32⟩
  | 98 => ⟨S1280x1280, .f32⟩
  | 99 => ⟨S1280x1, .f32⟩
  | 100 => ⟨S1x1280, .f32⟩
  | 101 => ⟨S1280x1280, .f32⟩
  | 102 => ⟨S1280x1280, .f32⟩
  | 103 => ⟨S1280x1280, .f32⟩
  | 104 => ⟨S1280x1280, .f32⟩
  | 105 => ⟨S1280x1280, .f32⟩
  | 106 => ⟨S1280x2, .f32⟩
  | 107 => ⟨S1280x1x2, .f32⟩
  | 108 => ⟨S1280x2, .f32⟩
  | 109 => ⟨S1x1280x2, .f32⟩
  | 110 => ⟨S1280x1280x2, .f32⟩
  | 111 => ⟨S1280x1280x2, .f32⟩
  | 112 => ⟨S1280x1280x2, .f32⟩
  | 113 => ⟨S1280x2, .f32⟩
  | 114 => ⟨S1280x1x2, .f32⟩
  | 115 => ⟨S1280x2, .f32⟩
  | 116 => ⟨S1x1280x2, .f32⟩
  | 117 => ⟨S1280x1280x2, .f32⟩
  | 118 => ⟨S1280x1280x2, .f32⟩
  | 119 => ⟨S1280x1280x2, .f32⟩
  | 120 => ⟨S1280x1280x2, .f32⟩
  | 121 => ⟨S_, .f32⟩
  | 122 => ⟨S_, .f32⟩
  | 123 => ⟨S1280x1280x2, .f32⟩
  | 124 => ⟨S1280x1280x2, .f32⟩
  | 125 => ⟨S1280x1280x1, .f32⟩
  | 126 => ⟨S1280x1280, .f32⟩
  | 127 => ⟨S1280x1280x1, .f32⟩
  | _ => ⟨S64x300x91, .f32⟩

abbrev hbmTy0_2 (i : Nat) : BufTy := match i % 128 with
  | 0 => ⟨S1280x1280, .f32⟩
  | 1 => ⟨S1280x1280, .f32⟩
  | 2 => ⟨S1280x1280, .f32⟩
  | 3 => ⟨S1280x1280, .f32⟩
  | 4 => ⟨S1280x1280, .f32⟩
  | 5 => ⟨S1280, .i32⟩
  | 6 => ⟨S_, .i32⟩
  | 7 => ⟨S1280, .i32⟩
  | 8 => ⟨S1280, .i1⟩
  | 9 => ⟨S_, .i32⟩
  | 10 => ⟨S1280, .i32⟩
  | 11 => ⟨S1280, .i32⟩
  | 12 => ⟨S1280, .i32⟩
  | 13 => ⟨S_, .i32⟩
  | 14 => ⟨S1280, .i32⟩
  | 15 => ⟨S1280, .i1⟩
  | 16 => ⟨S_, .i32⟩
  | 17 => ⟨S1280, .i32⟩
  | 18 => ⟨S1280, .i32⟩
  | 19 => ⟨S1280, .i32⟩
  | 20 => ⟨S1280x1, .i32⟩
  | 21 => ⟨S1280x1, .i32⟩
  | 22 => ⟨S1280x2, .i32⟩
  | 23 => ⟨S1280, .f32⟩
  | 24 => ⟨S_, .f32⟩
  | 25 => ⟨S1280, .f32⟩
  | 26 => ⟨S1280, .f32⟩
  | 27 => ⟨S_, .f32⟩
  | 28 => ⟨S_, .f32⟩
  | 29 => ⟨S_, .f32⟩
  | 30 => ⟨S_, .f32⟩
  | _ => ⟨S64x300x91, .f32⟩

abbrev hbmTy (i : Nat) : BufTy := match i / 128 with
  | 0 => hbmTy0_0 i
  | 1 => hbmTy0_1 i
  | 2 => hbmTy0_2 i
  | _ => ⟨S64x300x91, .f32⟩

abbrev bufTy : (tb : Table) → Fin (tcTables nBuf tb) → BufTy
  | .hbm, ⟨i, _⟩ => hbmTy i
  | _, _ => ⟨S64x300x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_call1_v0 : Ref sig .tc := ⟨.hbm, 44, rfl⟩
abbrev main_call1_v1 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_cst_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_13 : Ref sig .tc := ⟨.hbm, 81, rfl⟩
abbrev main_v54 : Ref sig .tc := ⟨.hbm, 82, rfl⟩
abbrev main_cst_14 : Ref sig .tc := ⟨.hbm, 83, rfl⟩
abbrev main_v55 : Ref sig .tc := ⟨.hbm, 84, rfl⟩
abbrev main_v56 : Ref sig .tc := ⟨.hbm, 85, rfl⟩
abbrev main_cst_15 : Ref sig .tc := ⟨.hbm, 86, rfl⟩
abbrev main_v57 : Ref sig .tc := ⟨.hbm, 87, rfl⟩
abbrev main_cst_16 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_v60 : Ref sig .tc := ⟨.hbm, 92, rfl⟩
abbrev main_call2_c : Ref sig .tc := ⟨.hbm, 93, rfl⟩
abbrev main_call2_v0 : Ref sig .tc := ⟨.hbm, 94, rfl⟩
abbrev main_call2_v1 : Ref sig .tc := ⟨.hbm, 95, rfl⟩
abbrev main_call2_c_0 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_c_1 : Ref sig .tc := ⟨.hbm, 100, rfl⟩
abbrev main_call2_c_2 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_v9 : Ref sig .tc := ⟨.hbm, 106, rfl⟩
abbrev main_call2_v10 : Ref sig .tc := ⟨.hbm, 107, rfl⟩
abbrev main_call2_c_3 : Ref sig .tc := ⟨.hbm, 108, rfl⟩
abbrev main_call2_v11 : Ref sig .tc := ⟨.hbm, 109, rfl⟩
abbrev main_call2_v12 : Ref sig .tc := ⟨.hbm, 110, rfl⟩
abbrev main_call2_v13 : Ref sig .tc := ⟨.hbm, 111, rfl⟩
abbrev main_call2_cst : Ref sig .tc := ⟨.hbm, 112, rfl⟩
abbrev main_call2_v14 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_cst_18 : Ref sig .tc := ⟨.hbm, 119, rfl⟩
abbrev main_v66 : Ref sig .tc := ⟨.hbm, 120, rfl⟩
abbrev main_cst_19 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_cst_20 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_cst_21 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_cst_22 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_cst_23 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_24 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_cst_25 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_cst_26 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_cst_27 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_cst_28 : Ref sig .tc := ⟨.hbm, 218, rfl⟩
abbrev main_call3_v0 : Ref sig .tc := ⟨.hbm, 219, rfl⟩
abbrev main_call3_v1 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_29 : Ref sig .tc := ⟨.hbm, 249, rfl⟩
abbrev main_call4_v0 : Ref sig .tc := ⟨.hbm, 250, rfl⟩
abbrev main_call4_v1 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_c_30 : Ref sig .tc := ⟨.hbm, 262, rfl⟩
abbrev main_v193 : Ref sig .tc := ⟨.hbm, 263, rfl⟩
abbrev main_v194 : Ref sig .tc := ⟨.hbm, 264, rfl⟩
abbrev main_c_31 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_c_32 : Ref sig .tc := ⟨.hbm, 269, rfl⟩
abbrev main_v198 : Ref sig .tc := ⟨.hbm, 270, rfl⟩
abbrev main_v199 : Ref sig .tc := ⟨.hbm, 271, rfl⟩
abbrev main_c_33 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_cst_34 : Ref sig .tc := ⟨.hbm, 280, rfl⟩
abbrev main_v207 : Ref sig .tc := ⟨.hbm, 281, rfl⟩
abbrev main_v208 : Ref sig .tc := ⟨.hbm, 282, rfl⟩
abbrev main_cst_35 : Ref sig .tc := ⟨.hbm, 283, rfl⟩
abbrev main_v209 : Ref sig .tc := ⟨.hbm, 284, rfl⟩
abbrev main_cst_36 : Ref sig .tc := ⟨.hbm, 285, rfl⟩
abbrev main_v210 : Ref sig .tc := ⟨.hbm, 286, rfl⟩

abbrev nD : Nat := 1
abbrev τ : Topo := Topo.v7x

variable {F : FTy → Type} [FloatOps F]
-- ==== Proof.Body.lean ====
/-
  The body of the idealized kernel, run once at the first grid point and once at a later one, each output and the
  carried scratch stated as a closed term of the blocks the body reads.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.Value
public import Idealize.ShloMosaic.Lib.Pipeline.TableIdle
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## What the body computes, as terms of its blocks -/

/-- The sixteen rows of the class table that belong to the grid point `i`. -/
def rowsAt (i : grid0.Coords) (K : Vec F S64x300 .i32) : Vec F S16x300 .i32 :=
  View.ld K (Rect.unit (s := S64x300) (k0_off1 i) S16x300.size (k0_off1_inb i))

/-- The running cross-entropy cell after a point: the cell before it plus the point's weighted block sum. -/
def ceStep (i : grid0.Coords) (x : Vec F S91x16x300 .f32) (K : Vec F S64x300 .i32) (acc : Vec F S1x1 .f32) : Vec F S1x1 .f32 :=
  k0_pay1 (rowsAt i K) (k0_pay31 x) (k0_pay32 x (rowsAt i K)) (k0_pay33 x (rowsAt i K)) (k0_pay34 x (rowsAt i K)) acc

/-- The class table built at the first point from the matched slots and their labels. -/
def clsTab (si tl : Vec F S20x64 .i32) : Vec F S64x300 .i32 := k0_pay4 si tl

/-- Coordinate `k` of every predicted box. -/
def pbRow (pb : Vec F S64x4x300 .f32) (k : Fin 4) : Vec F S64x1x300 .f32 :=
  match k with
  | 0 => View.ld pb (Rect.unit (s := S64x4x300) ![0, 0, 0] S64x1x300.size inb_S64x4x300_S64x1x300_0_0_0)
  | 1 => View.ld pb (Rect.unit (s := S64x4x300) ![0, 1, 0] S64x1x300.size inb_S64x4x300_S64x1x300_0_1_0)
  | 2 => View.ld pb (Rect.unit (s := S64x4x300) ![0, 2, 0] S64x1x300.size inb_S64x4x300_S64x1x300_0_2_0)
  | 3 => View.ld pb (Rect.unit (s := S64x4x300) ![0, 3, 0] S64x1x300.size inb_S64x4x300_S64x1x300_0_3_0)

/-- Coordinate `k` of every target box. -/
def tbRow (tb : Vec F S20x4x64 .f32) (k : Fin 4) : Vec F S20x1x64 .f32 :=
  match k with
  | 0 => View.ld tb (Rect.unit (s := S20x4x64) ![0, 0, 0] S20x1x64.size inb_S20x4x64_S20x1x64_0_0_0)
  | 1 => View.ld tb (Rect.unit (s := S20x4x64) ![0, 1, 0] S20x1x64.size inb_S20x4x64_S20x1x64_0_1_0)
  | 2 => View.ld tb (Rect.unit (s := S20x4x64) ![0, 2, 0] S20x1x64.size inb_S20x4x64_S20x1x64_0_2_0)
  | 3 => View.ld tb (Rect.unit (s := S20x4x64) ![0, 3, 0] S20x1x64.size inb_S20x4x64_S20x1x64_0_3_0)

/-- Coordinate `k` of the predicted box each target was matched with: the one-hot rows summed against it. -/
def srcCo (si : Vec F S20x64 .i32) (pb : Vec F S64x4x300 .f32) (k : Fin 4) : FVec F S20x64 .f32 :=
  k0_pay8 (k0_pay5 si) (pbRow pb k)

/-- Coordinate `k` of each target box, one row per target. -/
def tgtCo (tb : Vec F S20x4x64 .f32) (k : Fin 4) : FVec F S20x64 .f32 := k0_pay7 (tbRow tb k)

/-- The box-distance cell stored at the first point. -/
def l1Cell (si : Vec F S20x64 .i32) (pb : Vec F S64x4x300 .f32) (tb : Vec F S20x4x64 .f32) : Vec F S1x1 .f32 :=
  k0_pay15 (k0_pay14 (k0_pay5 si) (srcCo si pb 0) (tbRow tb 0) (pbRow pb 1) (tbRow tb 1) (pbRow pb 2) (tbRow tb 2) (pbRow pb 3) (tbRow tb 3))

/-- The box-overlap cell stored at the first point. -/
def giCell (si : Vec F S20x64 .i32) (pb : Vec F S64x4x300 .f32) (tb : Vec F S20x4x64 .f32) : Vec F S1x1 .f32 :=
  k0_pay29 (k0_pay16 (srcCo si pb 0) (srcCo si pb 2)) (k0_pay17 (srcCo si pb 0) (srcCo si pb 2))
    (k0_pay18 (srcCo si pb 1) (srcCo si pb 3)) (k0_pay19 (srcCo si pb 1) (srcCo si pb 3))
    (k0_pay20 (tgtCo tb 0) (tgtCo tb 2)) (k0_pay21 (tgtCo tb 0) (tgtCo tb 2))
    (k0_pay22 (tgtCo tb 1) (tgtCo tb 3)) (k0_pay23 (tgtCo tb 1) (tgtCo tb 3))
    (k0_pay24 (srcCo si pb 0) (srcCo si pb 1) (srcCo si pb 2) (srcCo si pb 3))
    (k0_pay25 (tgtCo tb 0) (tgtCo tb 1) (tgtCo tb 2) (tgtCo tb 3))
    (k0_pay26 (srcCo si pb 0) (tgtCo tb 0) (srcCo si pb 2) (tgtCo tb 2))
    (k0_pay27 (srcCo si pb 1) (tgtCo tb 1) (srcCo si pb 3) (tgtCo tb 3)) (k0_pay28 (F := F))

/-! ## The branch condition and the offsets -/

/-- The body's one branch is taken at the first point alone. -/
theorem first_iff (t : Fin cfg0.N) : k0_cond1 (grid0.coords t) = 1#1 ↔ t.val = 0 := by
  have ht : t.val < 4 := Nat.lt_of_lt_of_eq t.isLt N_0
  have e0 : (grid0.coords t 0).val = t.val / 1 % 4 := Pipeline.Grid.coords_val t 0 (by decide) rfl
  simp only [k0_cond1, e0]
  have h : t.val = 0 ↔ t.val % 4 = 0 := by omega
  rw [h]
  word_cmp

theorem z2 : (![0, 0] : Fin 2 → Nat) = fun _ => 0 := funext fun a => by fin_cases a <;> rfl
theorem z3 : (![0, 0, 0] : Fin 3 → Nat) = fun _ => 0 := funext fun a => by fin_cases a <;> rfl

/-! ## What each load of a whole staging buffer reads -/

section Reads

variable {κ : Kind} {sp : Space}

theorem rd_x (a : Memref sig .tc .vmem S91x16x300 .f32) (h : a.IsWhole) (x : Vec F S91x16x300 .f32) :
    View.readAt (Elt F) a.view (Rect.unit (s := S91x16x300) ![0, 0, 0] S91x16x300.size inb_S91x16x300_S91x16x300_0_0_0).toLoadRect (h.unread x) = x := by
  rw [View.readAt_eq_ld, h.read_unread]; exact View.ld_unit_zero z3 _ _

theorem rd_i (a : Memref sig .tc .vmem S20x64 .i32) (h : a.IsWhole) (x : Vec F S20x64 .i32) :
    View.readAt (Elt F) a.view (Rect.unit (s := S20x64) ![0, 0] S20x64.size inb_S20x64_S20x64_0_0).toLoadRect (h.unread x) = x := by
  rw [View.readAt_eq_ld, h.read_unread]; exact View.ld_unit_zero z2 _ _

theorem rd_o (a : Memref sig .tc .vmem S1x1 .f32) (h : a.IsWhole) (x : Vec F S1x1 .f32) :
    View.readAt (Elt F) a.view (Rect.unit (s := S1x1) ![0, 0] S1x1.size inb_S1x1_S1x1_0_0).toLoadRect (h.unread x) = x := by
  rw [View.readAt_eq_ld, h.read_unread]; exact View.ld_unit_zero z2 _ _

theorem rd_k (a : Memref sig .tc .vmem S64x300 .i32) (h : a.IsWhole) (x : Vec F S64x300 .i32) (i : grid0.Coords) :
    View.readAt (Elt F) a.view (Rect.unit (s := S64x300) (k0_off1 i) S16x300.size (k0_off1_inb i)).toLoadRect (h.unread x) = rowsAt i x := by
  rw [View.readAt_eq_ld, h.read_unread]; rfl

theorem rd_p (a : Memref sig .tc .vmem S64x4x300 .f32) (h : a.IsWhole) (x : Vec F S64x4x300 .f32) :
    View.readAt (Elt F) a.view (Rect.unit (s := S64x4x300) ![0, 0, 0] S64x1x300.size inb_S64x4x300_S64x1x300_0_0_0).toLoadRect (h.unread x) = pbRow x 0
    ∧ View.readAt (Elt F) a.view (Rect.unit (s := S64x4x300) ![0, 1, 0] S64x1x300.size inb_S64x4x300_S64x1x300_0_1_0).toLoadRect (h.unread x) = pbRow x 1
    ∧ View.readAt (Elt F) a.view (Rect.unit (s := S64x4x300) ![0, 2, 0] S64x1x300.size inb_S64x4x300_S64x1x300_0_2_0).toLoadRect (h.unread x) = pbRow x 2
    ∧ View.readAt (Elt F) a.view (Rect.unit (s := S64x4x300) ![0, 3, 0] S64x1x300.size inb_S64x4x300_S64x1x300_0_3_0).toLoadRect (h.unread x) = pbRow x 3 := by
  refine ⟨?_, ?_, ?_, ?_⟩ <;> rw [View.readAt_eq_ld, h.read_unread] <;> rfl

theorem rd_t (a : Memref sig .tc .vmem S20x4x64 .f32) (h : a.IsWhole) (x : Vec F S20x4x64 .f32) :
    View.readAt (Elt F) a.view (Rect.unit (s := S20x4x64) ![0, 0, 0] S20x1x64.size inb_S20x4x64_S20x1x64_0_0_0).toLoadRect (h.unread x) = tbRow x 0
    ∧ View.readAt (Elt F) a.view (Rect.unit (s := S20x4x64) ![0, 1, 0] S20x1x64.size inb_S20x4x64_S20x1x64_0_1_0).toLoadRect (h.unread x) = tbRow x 1
    ∧ View.readAt (Elt F) a.view (Rect.unit (s := S20x4x64) ![0, 2, 0] S20x1x64.size inb_S20x4x64_S20x1x64_0_2_0).toLoadRect (h.unread x) = tbRow x 2
    ∧ View.readAt (Elt F) a.view (Rect.unit (s := S20x4x64) ![0, 3, 0] S20x1x64.size inb_S20x4x64_S20x1x64_0_3_0).toLoadRect (h.unread x) = tbRow x 3 := by
  refine ⟨?_, ?_, ?_, ?_⟩ <;> rw [View.readAt_eq_ld, h.read_unread] <;> rfl

/-- A load of a box from a buffer whose last store covered it reads that box of what was stored. -/
theorem rd_box {S : Shape} {e : EltTy} (v : View sig .tc sp S e) {off : Fin S.rank → Nat} (hz : off = fun _ => 0)
    (inb : ∀ a, off a + S.size a ≤ S.size a) (x : S.Idx → Elt F e) (r : Rect S) :
    v.readCov (Val := Elt F) [⟨Rect.unit off S.size inb, x⟩] r.toLoadRect = View.ld x r := by
  rw [View.readCov_eq_canon_ld _ _ _ (fun y => ⟨_, List.mem_singleton_self _, View.mem_set_unit_zero hz inb y⟩), View.canon_unit_zero hz]

/-- A load of the cell just stored reads what was stored. -/
theorem rd_z (a : Memref sig .tc .vmem S1x1 .f32) (x : Vec F S1x1 .f32) :
    a.view.readCov (Val := Elt F) [(⟨Rect.unit (s := S1x1) ![0, 0] S1x1.size inb_S1x1_S1x1_0_0, x⟩ : View.Piece (Elt F) S1x1 .f32)] (Rect.unit (s := S1x1) ![0, 0] S1x1.size inb_S1x1_S1x1_0_0).toLoadRect = x :=
  View.readCov_unit_zero (S := S1x1) _ z2 _ _

/-- A buffer whose last store covered it holds that store's value. -/
theorem rd_w {sp : Space} {e : EltTy} (S : Shape) (v : View sig .tc sp S e) (f : v.ty.Contents (Elt F)) {off : Fin S.rank → Nat} (hz : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hz inb y⟩), View.canon_cons_unit_zero hz]

end Reads

set_option maxHeartbeats 1000000 in
/-- The body at the first point, on whole staging memrefs: it leaves the cross-entropy cell after one step from zero,
    the two box cells, and the class table in the scratch. -/
theorem run_first (c : Dev nD) (i : grid0.Coords) (arg1 : Memref sig .tc .vmem S91x16x300 .f32) (harg1 : arg1.IsWhole) (arg2 : Memref sig .tc .vmem S20x64 .i32) (harg2 : arg2.IsWhole) (arg3 : Memref sig .tc .vmem S20x64 .i32) (harg3 : arg3.IsWhole) (arg4 : Memref sig .tc .vmem S64x4x300 .f32) (harg4 : arg4.IsWhole) (arg5 : Memref sig .tc .vmem S20x4x64 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S64x300 .i32) (harg9 : arg9.IsWhole) (hc : k0_cond1 i = 1#1)
    (x0 : Vec F S91x16x300 .f32) (x1 : Vec F S20x64 .i32) (x2 : Vec F S20x64 .i32) (x3 : Vec F S64x4x300 .f32) (x4 : Vec F S20x4x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (ceStep i x0 (clsTab x1 x2) (k0_pay2 (F := F))) ∗ owns (c : Thread nD τ) arg7 fullShare (l1Cell x1 x3 x4) ∗ owns (c : Thread nD τ) arg8 fullShare (giCell x1 x3 x4) ∗ owns (c : Thread nD τ) arg9 fullShare (clsTab x1 x2)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
    simp only [cc0__body_eq_skeleton]; unfold cc0__body_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; swap; · iexact H5
      ipureintro
      refine (rd_w S1x1 _ _ z2 _ _ _).trans ?_
      refine (show (_ : Vec F S1x1 .f32) = k0_pay1 (F := F) (arg9.view.readCov [(⟨Rect.unit (s := S64x300) ![0, 0] S64x300.size inb_S64x300_S64x300_0_0, k0_pay4 (View.readAt (Elt F) arg2.view (Rect.unit (s := S20x64) ![0, 0] S20x64.size inb_S20x64_S20x64_0_0).toLoadRect (harg2.unread x1)) (View.readAt (Elt F) arg3.view (Rect.unit (s := S20x64) ![0, 0] S20x64.size inb_S20x64_S20x64_0_0).toLoadRect (harg3.unread x2))⟩ : View.Piece (Elt F) S64x300 .i32)] (Rect.unit (s := S64x300) (k0_off1 i) S16x300.size (k0_off1_inb i)).toLoadRect) (k0_pay31 (View.readAt (Elt F) arg1.view (Rect.unit (s := S91x16x300) ![0, 0, 0] S91x16x300.size inb_S91x16x300_S91x16x300_0_0_0).toLoadRect (harg1.unread x0))) (k0_pay32 (View.readAt (Elt F) arg1.view (Rect.unit (s := S91x16x300) ![0, 0, 0] S91x16x300.size inb_S91x16x300_S91x16x300_0_0_0).toLoadRect (harg1.unread x0)) (arg9.view.readCov [(⟨Rect.unit (s := S64x300) ![0, 0] S64x300.size inb_S64x300_S64x300_0_0, k0_pay4 (View.readAt (Elt F) arg2.view (Rect.unit (s := S20x64) ![0, 0] S20x64.size inb_S20x64_S20x64_0_0).toLoadRect (harg2.unread x1)) (View.readAt (Elt F) arg3.view (Rect.unit (s := S20x64) ![0, 0] S20x64.size inb_S20x64_S20x64_0_0).toLoadRect (harg3.unread x2))⟩ : View.Piece (Elt F) S64x300 .i32)] (Rect.unit (s := S64x300) (k0_off1 i) S16x300.size (k0_off1_inb i)).toLoadRect)) (k0_pay33 (View.readAt (Elt F) arg1.view (Rect.unit (s := S91x16x300) ![0, 0, 0] S91x16x300.size inb_S91x16x300_S91x16x300_0_0_0).toLoadRect (harg1.unread x0)) (arg9.view.readCov [(⟨Rect.unit (s := S64x300) ![0, 0] S64x300.size inb_S64x300_S64x300_0_0, k0_pay4 (View.readAt (Elt F) arg2.view (Rect.unit (s := S20x64) ![0, 0] S20x64.size inb_S20x64_S20x64_0_0).toLoadRect (harg2.unread x1)) (View.readAt (Elt F) arg3.view (Rect.unit (s := S20x64) ![0, 0] S20x64.size inb_S20x64_S20x64_0_0).toLoadRect (harg3.unread x2))⟩ : View.Piece (Elt F) S64x300 .i32)] (Rect.unit (s := S64x300) (k0_off1 i) S16x300.size (k0_off1_inb i)).toLoadRect)) (k0_pay34 (View.readAt (Elt F) arg1.view (Rect.unit (s := S91x16x300) ![0, 0, 0] S91x16x300.size inb_S91x16x300_S91x16x300_0_0_0).toLoadRect (harg1.unread x0)) (arg9.view.readCov [(⟨Rect.unit (s := S64x300) ![0, 0] S64x300.size inb_S64x300_S64x300_0_0, k0_pay4 (View.readAt (Elt F) arg2.view (Rect.unit (s := S20x64) ![0, 0] S20x64.size inb_S20x64_S20x64_0_0).toLoadRect (harg2.unread x1)) (View.readAt (Elt F) arg3.view (Rect.unit (s := S20x64) ![0, 0] S20x64.size inb_S20x64_S20x64_0_0).toLoadRect (harg3.unread x2))⟩ : View.Piece (Elt F) S64x300 .i32)] (Rect.unit (s := S64x300) (k0_off1 i) S16x300.size (k0_off1_inb i)).toLoadRect)) (arg6.view.readCov [(⟨Rect.unit (s := S1x1) ![0, 0] S1x1.size inb_S1x1_S1x1_0_0, k0_pay2 (F := F)⟩ : View.Piece (Elt F) S1x1 .f32)] (Rect.unit (s := S1x1) ![0, 0] S1x1.size inb_S1x1_S1x1_0_0).toLoadRect) from rfl).trans ?_
      rw [rd_x, rd_i, rd_i, rd_box _ z2, rd_z]; rfl
    isplitl [H6]
    · iexists _; isplitr; swap; · iexact H6
      ipureintro
      refine (rd_w S1x1 _ _ z2 _ _ _).trans ?_
      refine (show (_ : Vec F S1x1 .f32) = k0_pay15 (F := F) (k0_pay14 (k0_pay5 (View.readAt (Elt F) arg2.view (Rect.unit (s := S20x64) ![0, 0] S20x64.size inb_S20x64_S20x64_0_0).toLoadRect (harg2.unread x1))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 0, 0] S64x1x300.size inb_S64x4x300_S64x1x300_0_0_0).toLoadRect (harg4.unread x3))) (View.readAt (Elt F) arg5.view (Rect.unit (s := S20x4x64) ![0, 0, 0] S20x1x64.size inb_S20x4x64_S20x1x64_0_0_0).toLoadRect (harg5.unread x4)) (View.readAt (Elt F) arg4.view (Rect.unit (s := S64x4x300) ![0, 1, 0] S64x1x300.size inb_S64x4x300_S64x1x300_0_1_0).toLoadRect (harg4.unread x3)) (View.readAt (Elt F) arg5.view (Rect.unit (s := S20x4x64) ![0, 1, 0] S20x1x64.size inb_S20x4x64_S20x1x64_0_1_0).toLoadRect (harg5.unread x4)) (View.readAt (Elt F) arg4.view (Rect.unit (s := S64x4x300) ![0, 2, 0] S64x1x300.size inb_S64x4x300_S64x1x300_0_2_0).toLoadRect (harg4.unread x3)) (View.readAt (Elt F) arg5.view (Rect.unit (s := S20x4x64) ![0, 2, 0] S20x1x64.size inb_S20x4x64_S20x1x64_0_2_0).toLoadRect (harg5.unread x4)) (View.readAt (Elt F) arg4.view (Rect.unit (s := S64x4x300) ![0, 3, 0] S64x1x300.size inb_S64x4x300_S64x1x300_0_3_0).toLoadRect (harg4.unread x3)) (View.readAt (Elt F) arg5.view (Rect.unit (s := S20x4x64) ![0, 3, 0] S20x1x64.size inb_S20x4x64_S20x1x64_0_3_0).toLoadRect (harg5.unread x4))) from rfl).trans ?_
      rw [rd_i, (rd_p _ _ _).1, (rd_p _ _ _).2.1, (rd_p _ _ _).2.2.1, (rd_p _ _ _).2.2.2, (rd_t _ _ _).1, (rd_t _ _ _).2.1, (rd_t _ _ _).2.2.1, (rd_t _ _ _).2.2.2]; rfl
    isplitl [H7]
    · iexists _; isplitr; swap; · iexact H7
      ipureintro
      refine (rd_w S1x1 _ _ z2 _ _ _).trans ?_
      refine (show (_ : Vec F S1x1 .f32) = k0_pay29 (F := F) (k0_pay16 (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 0, 0] S64x1x300.size inb_S64x4x300_S64x1x300_0_0_0).toLoadRect (harg4.unread x3))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 2, 0] S64x1x300.size inb_S64x4x300_S64x1x300_0_2_0).toLoadRect (harg4.unread x3)))) (k0_pay17 (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 0, 0] S64x1x300.size inb_S64x4x300_S64x1x300_0_0_0).toLoadRect (harg4.unread x3))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 2, 0] S64x1x300.size inb_S64x4x300_S64x1x300_0_2_0).toLoadRect (harg4.unread x3)))) (k0_pay18 (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 1, 0] S64x1x300.size inb_S64x4x300_S64x1x300_0_1_0).toLoadRect (harg4.unread x3))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 3, 0] S64x1x300.size inb_S64x4x300_S64x1x300_0_3_0).toLoadRect (harg4.unread x3)))) (k0_pay19 (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 1, 0] S64x1x300.size inb_S64x4x300_S64x1x300_0_1_0).toLoadRect (harg4.unread x3))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 3, 0] S64x1x300.size inb_S64x4x300_S64x1x300_0_3_0).toLoadRect (harg4.unread x3))))
        (k0_pay20 (k0_pay7 (View.readAt (Elt F) arg5.view (Rect.unit (s := S20x4x64) ![0, 0, 0] S20x1x64.size inb_S20x4x64_S20x1x64_0_0_0).toLoadRect (harg5.unread x4))) (k0_pay7 (View.readAt (Elt F) arg5.view (Rect.unit (s := S20x4x64) ![0, 2, 0] S20x1x64.size inb_S20x4x64_S20x1x64_0_2_0).toLoadRect (harg5.unread x4)))) (k0_pay21 (k0_pay7 (View.readAt (Elt F) arg5.view (Rect.unit (s := S20x4x64) ![0, 0, 0] S20x1x64.size inb_S20x4x64_S20x1x64_0_0_0).toLoadRect (harg5.unread x4))) (k0_pay7 (View.readAt (Elt F) arg5.view (Rect.unit (s := S20x4x64) ![0, 2, 0] S20x1x64.size inb_S20x4x64_S20x1x64_0_2_0).toLoadRect (harg5.unread x4)))) (k0_pay22 (k0_pay7 (View.readAt (Elt F) arg5.view (Rect.unit (s := S20x4x64) ![0, 1, 0] S20x1x64.size inb_S20x4x64_S20x1x64_0_1_0).toLoadRect (harg5.unread x4))) (k0_pay7 (View.readAt (Elt F) arg5.view (Rect.unit (s := S20x4x64) ![0, 3, 0] S20x1x64.size inb_S20x4x64_S20x1x64_0_3_0).toLoadRect (harg5.unread x4)))) (k0_pay23 (k0_pay7 (View.readAt (Elt F) arg5.view (Rect.unit (s := S20x4x64) ![0, 1, 0] S20x1x64.size inb_S20x4x64_S20x1x64_0_1_0).toLoadRect (harg5.unread x4))) (k0_pay7 (View.readAt (Elt F) arg5.view (Rect.unit (s := S20x4x64) ![0, 3, 0] S20x1x64.size inb_S20x4x64_S20x1x64_0_3_0).toLoadRect (harg5.unread x4))))
        (k0_pay24 (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 0, 0] S64x1x300.size inb_S64x4x300_S64x1x300_0_0_0).toLoadRect (harg4.unread x3))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 1, 0] S64x1x300.size inb_S64x4x300_S64x1x300_0_1_0).toLoadRect (harg4.unread x3))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 2, 0] S64x1x300.size inb_S64x4x300_S64x1x300_0_2_0).toLoadRect (harg4.unread x3))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 3, 0] S64x1x300.size inb_S64x4x300_S64x1x300_0_3_0).toLoadRect (harg4.unread x3)))) (k0_pay25 (k0_pay7 (View.readAt (Elt F) arg5.view (Rect.unit (s := S20x4x64) ![0, 0, 0] S20x1x64.size inb_S20x4x64_S20x1x64_0_0_0).toLoadRect (harg5.unread x4))) (k0_pay7 (View.readAt (Elt F) arg5.view (Rect.unit (s := S20x4x64) ![0, 1, 0] S20x1x64.size inb_S20x4x64_S20x1x64_0_1_0).toLoadRect (harg5.unread x4))) (k0_pay7 (View.readAt (Elt F) arg5.view (Rect.unit (s := S20x4x64) ![0, 2, 0] S20x1x64.size inb_S20x4x64_S20x1x64_0_2_0).toLoadRect (harg5.unread x4))) (k0_pay7 (View.readAt (Elt F) arg5.view (Rect.unit (s := S20x4x64) ![0, 3, 0] S20x1x64.size inb_S20x4x64_S20x1x64_0_3_0).toLoadRect (harg5.unread x4))))
        (k0_pay26 (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 0, 0] S64x1x300.size inb_S64x4x300_S64x1x300_0_0_0).toLoadRect (harg4.unread x3))) (k0_pay7 (View.readAt (Elt F) arg5.view (Rect.unit (s := S20x4x64) ![0, 0, 0] S20x1x64.size inb_S20x4x64_S20x1x64_0_0_0).toLoadRect (harg5.unread x4))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 2, 0] S64x1x300.size inb_S64x4x300_S64x1x300_0_2_0).toLoadRect (harg4.unread x3))) (k0_pay7 (View.readAt (Elt F) arg5.view (Rect.unit (s := S20x4x64) ![0, 2, 0] S20x1x64.size inb_S20x4x64_S20x1x64_0_2_0).toLoadRect (harg5.unread x4)))) (k0_pay27 (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 1, 0] S64x1x300.size inb_S64x4x300_S64x1x300_0_1_0).toLoadRect (harg4.unread x3))) (k0_pay7 (View.readAt (Elt F) arg5.view (Rect.unit (s := S20x4x64) ![0, 1, 0] S20x1x64.size inb_S20x4x64_S20x1x64_0_1_0).toLoadRect (harg5.unread x4))) (k0_pay8 (k0_pay5 (View.readAt (Elt F) arg2.view (Rect.unit (s := S20x64) ![0, 0] S20x64.size inb_S20x64_S20x64_0_0).toLoadRect (harg2.unread x1))) (View.readAt (Elt F) arg4.view (Rect.unit (s := S64x4x300) ![0, 3, 0] S64x1x300.size inb_S64x4x300_S64x1x300_0_3_0).toLoadRect (harg4.unread x3))) (k0_pay7 (View.readAt (Elt F) arg5.view (Rect.unit (s := S20x4x64) ![0, 3, 0] S20x1x64.size inb_S20x4x64_S20x1x64_0_3_0).toLoadRect (harg5.unread x4)))) (k0_pay28 (F := F)) from rfl).trans ?_
      rw [rd_i, (rd_p _ _ _).1, (rd_p _ _ _).2.1, (rd_p _ _ _).2.2.1, (rd_p _ _ _).2.2.2, (rd_t _ _ _).1, (rd_t _ _ _).2.1, (rd_t _ _ _).2.2.1, (rd_t _ _ _).2.2.2]; rfl
    iexists _; isplitr; swap; · iexact HS0
    ipureintro
    refine (show _ = View.read (Elt F) arg9.view (arg9.view.writes (Elt F) arg9.view.junk [(⟨Rect.unit (s := S64x300) ![0, 0] S64x300.size inb_S64x300_S64x300_0_0, k0_pay4 (View.readAt (Elt F) arg2.view (Rect.unit (s := S20x64) ![0, 0] S20x64.size inb_S20x64_S20x64_0_0).toLoadRect (harg2.unread x1)) (View.readAt (Elt F) arg3.view (Rect.unit (s := S20x64) ![0, 0] S20x64.size inb_S20x64_S20x64_0_0).toLoadRect (harg3.unread x2))⟩ : View.Piece (Elt F) S64x300 .i32)]) from rfl).trans ?_
    rw [rd_i, rd_i]
    exact rd_w S64x300 _ _ z2 _ _ _

set_option maxHeartbeats 1000000 in
/-- The body at a later point, on whole staging memrefs: the cross-entropy cell takes one step from what it held, the
    other two cells and the class table stay as they were. -/
theorem run_later (c : Dev nD) (i : grid0.Coords) (arg1 : Memref sig .tc .vmem S91x16x300 .f32) (harg1 : arg1.IsWhole) (arg2 : Memref sig .tc .vmem S20x64 .i32) (harg2 : arg2.IsWhole) (arg3 : Memref sig .tc .vmem S20x64 .i32) (harg3 : arg3.IsWhole) (arg4 : Memref sig .tc .vmem S64x4x300 .f32) (harg4 : arg4.IsWhole) (arg5 : Memref sig .tc .vmem S20x4x64 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S64x300 .i32) (harg9 : arg9.IsWhole) (hc : ¬ k0_cond1 i = 1#1)
    (x0 : Vec F S91x16x300 .f32) (x5 : Vec F S1x1 .f32) (x9 : Vec F S64x300 .i32)
    (E : Set ℕ) (K : PUnit → sProp 𝕄) :
    iprop(owns (c : Thread nD τ) arg1 fullShare x0 ∗ owns (c : Thread nD τ) arg6 fullShare x5 ∗ owns (c : Thread nD τ) arg9 fullShare x9
        ∗ (iprop(owns (c : Thread nD τ) arg1 fullShare x0 ∗ owns (c : Thread nD τ) arg6 fullShare (ceStep i x0 x9 x5) ∗ owns (c : Thread nD τ) arg9 fullShare x9) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9) K := by
    simp only [cc0__body_eq_skeleton]; unfold cc0__body_skel
    simp only [k0_part4_eq_skeleton]
    unfold owns
    iintro ⟨⟨%f0, %hf0, H0⟩, ⟨%f5, %hf5, H5⟩, ⟨%f9, %hf9, HS0⟩, Hk⟩
    obtain rfl := harg1.eq_unread hf0; obtain rfl := harg6.eq_unread hf5; obtain rfl := harg9.eq_unread hf9
    sl_exec (disch := first | sl_exact hc)
    sl_step
    iapply Hk
    isplitl [H0]
    · iexists _; isplitr; · ipureintro; exact harg1.read_unread _
      iexact H0
    isplitl [H5]
    · iexists _; isplitr; swap; · iexact H5
      ipureintro
      refine (rd_w S1x1 _ _ z2 _ _ _).trans ?_
      refine (show (_ : Vec F S1x1 .f32) = k0_pay1 (F := F) (View.readAt (Elt F) arg9.view (Rect.unit (s := S64x300) (k0_off1 i) S16x300.size (k0_off1_inb i)).toLoadRect (harg9.unread x9)) (k0_pay31 (View.readAt (Elt F) arg1.view (Rect.unit (s := S91x16x300) ![0, 0, 0] S91x16x300.size inb_S91x16x300_S91x16x300_0_0_0).toLoadRect (harg1.unread x0))) (k0_pay32 (View.readAt (Elt F) arg1.view (Rect.unit (s := S91x16x300) ![0, 0, 0] S91x16x300.size inb_S91x16x300_S91x16x300_0_0_0).toLoadRect (harg1.unread x0)) (View.readAt (Elt F) arg9.view (Rect.unit (s := S64x300) (k0_off1 i) S16x300.size (k0_off1_inb i)).toLoadRect (harg9.unread x9))) (k0_pay33 (View.readAt (Elt F) arg1.view (Rect.unit (s := S91x16x300) ![0, 0, 0] S91x16x300.size inb_S91x16x300_S91x16x300_0_0_0).toLoadRect (harg1.unread x0)) (View.readAt (Elt F) arg9.view (Rect.unit (s := S64x300) (k0_off1 i) S16x300.size (k0_off1_inb i)).toLoadRect (harg9.unread x9))) (k0_pay34 (View.readAt (Elt F) arg1.view (Rect.unit (s := S91x16x300) ![0, 0, 0] S91x16x300.size inb_S91x16x300_S91x16x300_0_0_0).toLoadRect (harg1.unread x0)) (View.readAt (Elt F) arg9.view (Rect.unit (s := S64x300) (k0_off1 i) S16x300.size (k0_off1_inb i)).toLoadRect (harg9.unread x9))) (View.readAt (Elt F) arg6.view (Rect.unit (s := S1x1) ![0, 0] S1x1.size inb_S1x1_S1x1_0_0).toLoadRect (harg6.unread x5)) from rfl).trans ?_
      rw [rd_x, rd_k, rd_o]; rfl
    iexists _; isplitr; · ipureintro; exact harg9.read_unread _
    iexact HS0

end Cert.KernelIdeal.Hand

end
-- ==== Proof.Points.lean ====
module

public import proofs.«01_k».proof.Proof.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the four grid points leave -/

/-- The grid point of number `n`. -/
def ptOf (n : ℕ) : Fin cfg0.N := ⟨n % 4, lt_of_lt_of_eq (Nat.mod_lt _ (by decide)) (show 4 = cfg0.N from N_0.symm)⟩

theorem ptOf_val (t : Fin cfg0.N) : ptOf t.val = t :=
  Fin.ext (Nat.mod_eq_of_lt (lt_of_lt_of_eq t.isLt (show cfg0.N = 4 from N_0)))

/-- The block of logits read at point `t`. -/
def xBlk (c : Dev nD) (t : Fin cfg0.N) : Vec F S91x16x300 .f32 := iblk m c 0 t

/-- The class table the first point stores. -/
def clsC (c : Dev nD) : Vec F S64x300 .i32 := clsTab (F := F) (iblk m c 1 (ptOf 0)) (iblk m c 2 (ptOf 0))

/-- The box-distance cell the first point stores. -/
def l1C (c : Dev nD) : Vec F S1x1 .f32 := l1Cell (F := F) (iblk m c 1 (ptOf 0)) (iblk m c 3 (ptOf 0)) (iblk m c 4 (ptOf 0))

/-- The generalised-overlap cell the first point stores. -/
def giC (c : Dev nD) : Vec F S1x1 .f32 := giCell (F := F) (iblk m c 1 (ptOf 0)) (iblk m c 3 (ptOf 0)) (iblk m c 4 (ptOf 0))

/-- The cross-entropy cell after points `0 .. n`. -/
def ceAt (c : Dev nD) : ℕ → Vec F S1x1 .f32
  | 0 => ceStep (grid0.coords (ptOf 0)) (xBlk m c (ptOf 0)) (clsC m c) k0_pay2
  | n + 1 => ceStep (grid0.coords (ptOf (n + 1))) (xBlk m c (ptOf (n + 1))) (clsC m c) (ceAt c n)

theorem ceAt_first (c : Dev nD) (t : Fin cfg0.N) (h : t.val = 0) :
    ceAt m c t.val = ceStep (grid0.coords t) (xBlk m c t) (clsC m c) k0_pay2 := by
  have e : ptOf 0 = t := by rw [← h]; exact ptOf_val t
  rw [h, ceAt, e]

theorem ceAt_later (c : Dev nD) (t : Fin cfg0.N) (h : t.val ≠ 0) :
    ceAt m c t.val = ceStep (grid0.coords t) (xBlk m c t) (clsC m c) (ceAt m c (t.val - 1)) := by
  obtain ⟨n, hn⟩ : ∃ n, t.val = n + 1 := ⟨t.val - 1, by omega⟩
  have e : ptOf (n + 1) = t := by rw [← hn]; exact ptOf_val t
  rw [hn, ceAt, e]; rfl

/-! ## The proof data -/

abbrev ms0_0 (t : Fin cfg0.N) : Memref sig .tc .vmem S91x16x300 .f32 := win0_0.stage (cfg0.slots t 0)
abbrev ms0_1 (t : Fin cfg0.N) : Memref sig .tc .vmem S20x64 .i32 := win0_1.stage (cfg0.slots t 1)
abbrev ms0_2 (t : Fin cfg0.N) : Memref sig .tc .vmem S20x64 .i32 := win0_2.stage (cfg0.slots t 2)
abbrev ms0_3 (t : Fin cfg0.N) : Memref sig .tc .vmem S64x4x300 .f32 := win0_3.stage (cfg0.slots t 3)
abbrev ms0_4 (t : Fin cfg0.N) : Memref sig .tc .vmem S20x4x64 .f32 := win0_4.stage (cfg0.slots t 4)
abbrev ms0_5 (t : Fin cfg0.N) : Memref sig .tc .vmem S1x1 .f32 := win0_5.stage (cfg0.slots t 5)
abbrev ms0_6 (t : Fin cfg0.N) : Memref sig .tc .vmem S1x1 .f32 := win0_6.stage (cfg0.slots t 6)
abbrev ms0_7 (t : Fin cfg0.N) : Memref sig .tc .vmem S1x1 .f32 := win0_7.stage (cfg0.slots t 7)
/-- The class table's buffer. -/
abbrev tabM : Memref sig .tc .vmem S64x300 .i32 := Memref.whole cc0_scratch0

/-- The invariant between points: before the first nothing is known of the class table's buffer, afterwards it holds
    the class table. -/
def Inv (c : Dev nD) (n : ℕ) : sProp 𝕄 :=
  if n = 0 then Pipeline.ΦA spec0 c
  else iprop(owns (c : Thread nD τ) tabM fullShare (clsC m c) ∗ (∃ r, prngReg c r))

theorem Inv_zero (c : Dev nD) :
    Inv m c 0 = iprop(iprop((∃ d, owns (c : Thread nD τ) tabM fullShare d)) ∗ (∃ r, prngReg c r)) := by
  unfold Inv; rw [if_pos rfl]
  unfold Pipeline.ΦA; rw [scopedRest0_eq]; simp only [tabM, owns_whole]; try rfl

theorem Inv_succ (c : Dev nD) (n : ℕ) (h : n ≠ 0) :
    Inv m c n = iprop(owns (c : Thread nD τ) tabM fullShare (clsC m c) ∗ (∃ r, prngReg c r)) := by
  unfold Inv; rw [if_neg h]

/-- The proof data: the arrays as the region finds them; after the body at `t` each input's buffer at its block, the
    cross-entropy cell after `t + 1` steps, the other two cells at their one value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => ceAt m c t.val
    | ⟨6, _⟩ => l1C m c
    | ⟨7, _⟩ => giC m c
  Φ p := Inv m c p.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = ceAt m c t.val := by dsimp only [dats]
theorem after_6 (c : Dev nD) (t : Fin cfg0.N) : (dats m 0 c).after 6 t = l1C m c := by dsimp only [dats]
theorem after_7 (c : Dev nD) (t : Fin cfg0.N) : (dats m 0 c).after 7 t = giC m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## When the result windows are idle, and what they hold before a point -/

theorem live_5 (t : Fin cfg0.N) : cfg0.idle 5 (grid0.coords t) = false := rfl

theorem idle_6 (t : Fin cfg0.N) : cfg0.idle 6 (grid0.coords t) = !(decide (t.val = 0)) := by
  show (!(k0_cond1 (grid0.coords t) == 1#1)) = _
  congr 1
  by_cases h : t.val = 0
  · rw [(first_iff t).mpr h]; simp [h]
  · have := fun e => h ((first_iff t).mp e)
    simp [h]; exact this

theorem idle_7 (t : Fin cfg0.N) : cfg0.idle 7 (grid0.coords t) = !(decide (t.val = 0)) := idle_6 t

/-- A result window not idle at the first point and written back at the last only holds what the point before left, at
    every point but the first. -/
theorem fresh_of (w : Fin cfg0.W) (hf : ∀ t : Fin cfg0.N, (cfg0.win w).flush t = true ↔ t.val % 4 = 3)
    (hi : ∀ t : Fin cfg0.N, t.val = 0 → cfg0.idle w (cfg0.grid.coords t) = false) : ∀ n, n < 4 → cfg0.fresh w n = decide (n = 0)
  | 0, _ => cfg0.fresh_zero w
  | n + 1, h => by
    have hN : n < cfg0.N := lt_of_lt_of_eq (by omega) (show 4 = cfg0.N from N_0.symm)
    rw [cfg0.fresh_succ w n hN, fresh_of w hf hi n (by omega)]
    have h1 : (cfg0.win w).flush ⟨n, hN⟩ = false := by
      rw [← Bool.not_eq_true, hf]; show ¬ n % 4 = 3; omega
    rw [h1]
    by_cases h0 : n = 0
    · rw [hi ⟨n, hN⟩ h0]; simp
    · simp [h0]

theorem fresh_5 (t : Fin cfg0.N) : cfg0.fresh 5 t.val = decide (t.val = 0) :=
  fresh_of 5 flush0_5 (fun _ _ => rfl) t.val (lt_of_lt_of_eq t.isLt (show cfg0.N = 4 from N_0))
theorem fresh_6 (t : Fin cfg0.N) : cfg0.fresh 6 t.val = decide (t.val = 0) :=
  fresh_of 6 flush0_6 (fun t h => (idle_6 t).trans (by simp [h])) t.val (lt_of_lt_of_eq t.isLt (show cfg0.N = 4 from N_0))
theorem fresh_7 (t : Fin cfg0.N) : cfg0.fresh 7 t.val = decide (t.val = 0) :=
  fresh_of 7 flush0_7 (fun t h => (idle_7 t).trans (by simp [h])) t.val (lt_of_lt_of_eq t.isLt (show cfg0.N = 4 from N_0))

theorem before_5 (c : Dev nD) (t : Fin cfg0.N) (h : t.val ≠ 0) (d) : (dats m 0 c).before 5 t d = ceAt m c (t.val - 1) := by
  rw [(dats m 0 c).before_out_traj 5 rfl (fun _ _ => rfl) (fun t _ hi _ => absurd hi (by rw [show cfg0.idle 5 (cfg0.grid.coords t) = false from rfl]; decide)) _ t rfl d,
    fresh_5, if_neg (by simp [h]), after_5]
theorem before_6 (c : Dev nD) (t : Fin cfg0.N) (h : t.val ≠ 0) (d) : (dats m 0 c).before 6 t d = l1C m c := by
  rw [(dats m 0 c).before_out_traj 6 rfl (fun _ _ => rfl) (fun t _ _ _ => by rw [after_6, after_6]) _ t rfl d,
    fresh_6, if_neg (by simp [h]), after_6]
theorem before_7 (c : Dev nD) (t : Fin cfg0.N) (h : t.val ≠ 0) (d) : (dats m 0 c).before 7 t d = giC m c := by
  rw [(dats m 0 c).before_out_traj 7 rfl (fun _ _ => rfl) (fun t _ _ _ => by rw [after_7, after_7]) _ t rfl d,
    fresh_7, if_neg (by simp [h]), after_7]

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window whose buffer holds, whatever was there, what the body leaves in it, is handed back by a body that does not
    touch it. -/
theorem leaves_kept (c : Dev nD) (w : Fin cfg0.W) (t : Fin cfg0.N) (X) (hX : (dats m 0 c).after w t = X) (hb : ∀ d, (dats m 0 c).before w t d = X) :
    (owns (c : Thread nD τ) ((cfg0.win w).stage (cfg0.slots t w)) fullShare X : sProp 𝕄) ⊢ (dats m 0 c).leavesExact w t := by
  unfold Dat.leavesExact
  cases cfg0.idle w (cfg0.grid.coords t)
  · rw [hX]
  · cases (cfg0.win w).flush t
    · simp only [hb]
      iintro H
      iexists X
      iexact H
    · simp only [hX]; exact .rfl

end Cert.KernelIdeal.Hand

end
-- ==== Proof.Launch.lean ====
module

public import proofs.«01_k».proof.Proof.Points
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point: at the first it stores all three cells and the class table, at a later one it takes one step
    of the cross-entropy cell and leaves the rest. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [leaves_live m c 0 t rfl, leaves_live m c 1 t rfl, leaves_live m c 2 t rfl, leaves_live m c 3 t rfl, leaves_live m c 4 t rfl, leaves_live m c 5 t rfl,
    after_0, after_1, after_2, after_3, after_4, after_5,
    show (dats m 0 c).owesAt () t.succ = (dats m 0 c).owesAt () t.castSucc from rfl,
    show (dats m 0 c).Φ t.succ = Inv m c (t.val + 1) from rfl, Inv_succ m c _ (Nat.succ_ne_zero _),
    show (dats m 0 c).Φ t.castSucc = Inv m c t.val from rfl]
  by_cases h0 : t.val = 0
  · have e0 : ptOf 0 = t := by rw [← h0]; exact ptOf_val t
    rw [show cfg0.grid.coords t = grid0.coords t from rfl, leaves_live m c 6 t ((idle_6 t).trans (by simp [h0])), leaves_live m c 7 t ((idle_7 t).trans (by simp [h0])), after_6, after_7,
      ceAt_first m c t h0, show Inv m c t.val = Inv m c 0 from by rw [h0], Inv_zero]
    unfold xBlk clsC l1C giC
    rw [e0]
    iintro ⟨⟨⟨%d8, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_first c (grid0.coords t) _ _ _ _ _ _ _ _ _ _ _ _ _ _ _ _ _ _ ((first_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexists _; iexact HS0
    iintro ⟨H0, H1, H2, H3, H4, H5, H6, H7, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · simp only [before_5 m c t h0, before_6 m c t h0, before_7 m c t h0]
    rw [Inv_succ m c _ h0, ceAt_later m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_later c (grid0.coords t) _ _ _ _ _ _ _ _ _ _ _ _ _ _ _ _ _ _ (fun h => h0 ((first_iff t).mp h)) (iblk m c 0 t) (ceAt m c (t.val - 1)) (clsC m c) Set.univ _)
    isplitl [H0]; · iexact H0
    isplitl [H5]; · iexact H5
    isplitl [HS0]; · iexact HS0
    iintro ⟨H0, H5, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_kept m c 6 t (l1C m c) (after_6 m c t) (before_6 m c t h0)); iexact H6
    iapply (leaves_kept m c 7 t (giC m c) (after_7 m c t) (before_7 m c t h0)); iexact H7

/-- The body table's row at point `t` is the body as called there. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the last point leaves is a state of the region's end. -/
theorem Inv_out (c : Dev nD) : (dats m 0 c).Φ (Fin.last cfg0.N) ⊢ (Pipeline.ΦA spec0 c : sProp 𝕄) := by
  rw [show (dats m 0 c).Φ (Fin.last cfg0.N) = Inv m c cfg0.N from rfl, Inv_succ m c _ (by rw [show cfg0.N = 4 from N_0]; decide),
    show (Pipeline.ΦA spec0 c : sProp 𝕄) = Inv m c 0 from (if_pos rfl).symm, Inv_zero]
  iintro ⟨H, Hg⟩
  isplitl [H]
  · iexists _; iexact H
  iexact Hg

/-! ## The run -/

set_option backward.isDefEq.respectTransparency.types false in
set_option maxHeartbeats 800000 in
/-- The whole run: every weakly fair execution ends with each pipeline array at what the write-backs put there, every
    other buffer as the later host lines leave it, and every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => .rfl) (hout := Inv_out m)

/-- The frame: the arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Hand

end
-- ==== Proof.KFrame.lean ====
module

public import proofs.«01_k».proof.Proof.Launch
public import proofs.«01_k».proof.Proof.Gen.Kernel
public import proofs.«01_k».proof.Defs

@[expose] public section

set_option maxRecDepth 65536

noncomputable section

namespace Cert.Kernel.Hand

open Idealize.ShloMosaic Idealize.SL.Sem

/-- The reading of a named constant that keeps the kernel's own word: at it the ideal program's text is the kernel's. -/
@[reducible] def ownWord : Named Bits := ⟨fun _ _ {φ} b => Scalar.ofBits φ b⟩

/-- The two programs' entry functions are the same. -/
theorem main_eq : (Cert.KernelIdeal.main (F := Bits)) = (Cert.Kernel.main (F := Bits)) := rfl

/-- The two bodies are the same. -/
theorem body_eq : @Cert.KernelIdeal.cc0__body Bits _ ownWord _ = @Cert.Kernel.cc0__body Bits _ _ := by
  unfold Cert.KernelIdeal.cc0__body Cert.Kernel.cc0__body
  rfl

/-- The two tables of bodies are the same. -/
theorem defs0_eq : @Cert.KernelIdeal.defs₀ Bits _ ownWord _ = (Cert.Kernel.defs₀ (F := Bits)) := by
  unfold Cert.KernelIdeal.defs₀ Cert.Kernel.defs₀
  refine congrArg Defs.onTc (funext fun l => funext fun a => ?_)
  match l, a with
  | ⟨0, _⟩, (t, s) =>
    show @Cert.KernelIdeal.cc0__body Bits _ ownWord _ _ _ _ _ _ _ _ _ _ _ _ _ _ _ _ _ _ _ _ = _
    rw [body_eq]
    rfl

/-- The two tables of bodies and pipelines are the same. -/
theorem defs_eq : @Cert.KernelIdeal.defs Bits _ ownWord _ = (Cert.Kernel.defs (F := Bits)) := by
  unfold Cert.KernelIdeal.defs Cert.Kernel.defs
  exact congrArg (Pipeline.defs _) defs0_eq

/-- The kernel's frame at float words: the arguments end as launched and every counter at zero. It is the ideal program's,
    which is proved at every float format, read at the kernel's own words. -/
theorem frame : Cert.quiescent_Kernel := by
  intro m g _
  have h := @Cert.KernelIdeal.Hand.frame Bits _ ownWord m g
  rw [defs_eq, main_eq] at h
  exact h

end Cert.Kernel.Hand

end
-- ==== Proof.Result.lean ====
module

public import proofs.«01_k».proof.Proof.Launch
public import Idealize.ShloMosaic.Lib.Pipeline.Value
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The result arrays -/

/-- Window 5's one write-back writes the cross-entropy cell after the four points. -/
theorem flushed_5 (c : Dev nD) (t : Fin cfg0.N) (hf : (cfg0.win 5).flush t = true) :
    (dats m 0 c).flushed 5 t = ((cfg0.win 5).blk t).view.read (Elt F) (ceAt m c 3) := by
  have h3 : t.val = 3 := by have := (flush0_5 t).mp hf; have := lt_of_lt_of_eq t.isLt (show cfg0.N = 4 from N_0); omega
  show (cfg0.win 5).cut (grid0.coords t) ((dats m 0 c).after 5 t) = _
  rw [after_5, h3]
  have hz' : (fun a => win0_5.index t a * main_v5_0.ty.shape.size a) = fun _ => 0 := funext fun a => by
    match a with
    | ⟨0, _⟩ => rfl
    | ⟨1, _⟩ => rfl
  exact (Memref.read_access_unit_zero (Elt F) main_v5_0 hz' (fun a => by rw [congrFun hz' a]; simp) (ceAt m c 3)).symm

/-- So the array ends holding it. -/
theorem final_5 (c : Dev nD) : (dats m 0 c).arrAt 5 cfg0.N = ceAt m c 3 :=
  (dats m 0 c).arrAt_eq_of_cover 5 (ceAt m c 3) (flushed_5 m c) fun i =>
    ⟨ptOf 3, (flush0_5 (ptOf 3)).mpr rfl, by
      show i ∈ ((View.whole main_v5_0).slice (win0_5.rect (ptOf 3))).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1
                  omega
      | ⟨1, _⟩ => show 0 * 1 ≤ (i 1 : Nat) ∧ (i 1 : Nat) < 0 * 1 + 1
                  omega⟩

/-- The result read off it. -/
theorem res_5 (c : Dev nD) : Pipeline.afterTail₀ cfgs (dats m) 0 (V0 m) [hostOps1] c main_v6 = shapeCast S_ (ceAt m c 3) shapeCasts_S1x1_S_ := by
  unfold Pipeline.afterTail₀
  simp only [hostOps1, List.flatten_cons, List.flatten_nil, List.append_nil]
  after_results
  rw [Pipeline.withArrays_arr spec0 launch0.win.arr_inj c (V0 m c) (fun w => (dats m 0 c).arrAt w cfg0.N) 5, final_5]
  rfl

/-- Window 6's one write-back writes the box-distance cell. -/
theorem flushed_6 (c : Dev nD) (t : Fin cfg0.N) (hf : (cfg0.win 6).flush t = true) :
    (dats m 0 c).flushed 6 t = ((cfg0.win 6).blk t).view.read (Elt F) (l1C m c) := by
  have h3 : t.val = 3 := by have := (flush0_6 t).mp hf; have := lt_of_lt_of_eq t.isLt (show cfg0.N = 4 from N_0); omega
  show (cfg0.win 6).cut (grid0.coords t) ((dats m 0 c).after 6 t) = _
  rw [after_6]
  have hz' : (fun a => win0_6.index t a * main_v5_1.ty.shape.size a) = fun _ => 0 := funext fun a => by
    match a with
    | ⟨0, _⟩ => rfl
    | ⟨1, _⟩ => rfl
  exact (Memref.read_access_unit_zero (Elt F) main_v5_1 hz' (fun a => by rw [congrFun hz' a]; simp) (l1C m c)).symm

/-- So the array ends holding it. -/
theorem final_6 (c : Dev nD) : (dats m 0 c).arrAt 6 cfg0.N = l1C m c :=
  (dats m 0 c).arrAt_eq_of_cover 6 (l1C m c) (flushed_6 m c) fun i =>
    ⟨ptOf 3, (flush0_6 (ptOf 3)).mpr rfl, by
      show i ∈ ((View.whole main_v5_1).slice (win0_6.rect (ptOf 3))).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1
                  omega
      | ⟨1, _⟩ => show 0 * 1 ≤ (i 1 : Nat) ∧ (i 1 : Nat) < 0 * 1 + 1
                  omega⟩

/-- The result read off it. -/
theorem res_6 (c : Dev nD) : Pipeline.afterTail₀ cfgs (dats m) 0 (V0 m) [hostOps1] c main_v7 = shapeCast S_ (l1C m c) shapeCasts_S1x1_S_ := by
  unfold Pipeline.afterTail₀
  simp only [hostOps1, List.flatten_cons, List.flatten_nil, List.append_nil]
  after_results
  rw [Pipeline.withArrays_arr spec0 launch0.win.arr_inj c (V0 m c) (fun w => (dats m 0 c).arrAt w cfg0.N) 6, final_6]
  rfl

/-- Window 7's one write-back writes the generalised-overlap cell. -/
theorem flushed_7 (c : Dev nD) (t : Fin cfg0.N) (hf : (cfg0.win 7).flush t = true) :
    (dats m 0 c).flushed 7 t = ((cfg0.win 7).blk t).view.read (Elt F) (giC m c) := by
  have h3 : t.val = 3 := by have := (flush0_7 t).mp hf; have := lt_of_lt_of_eq t.isLt (show cfg0.N = 4 from N_0); omega
  show (cfg0.win 7).cut (grid0.coords t) ((dats m 0 c).after 7 t) = _
  rw [after_7]
  have hz' : (fun a => win0_7.index t a * main_v5_2.ty.shape.size a) = fun _ => 0 := funext fun a => by
    match a with
    | ⟨0, _⟩ => rfl
    | ⟨1, _⟩ => rfl
  exact (Memref.read_access_unit_zero (Elt F) main_v5_2 hz' (fun a => by rw [congrFun hz' a]; simp) (giC m c)).symm

/-- So the array ends holding it. -/
theorem final_7 (c : Dev nD) : (dats m 0 c).arrAt 7 cfg0.N = giC m c :=
  (dats m 0 c).arrAt_eq_of_cover 7 (giC m c) (flushed_7 m c) fun i =>
    ⟨ptOf 3, (flush0_7 (ptOf 3)).mpr rfl, by
      show i ∈ ((View.whole main_v5_2).slice (win0_7.rect (ptOf 3))).set
      rw [View.set_slice_whole, Rect.mem_set_unit]
      intro a
      have h0 : (i 0 : Nat) < 1 := (i 0).isLt
      have h1 : (i 1 : Nat) < 1 := (i 1).isLt
      match a with
      | ⟨0, _⟩ => show 0 * 1 ≤ (i 0 : Nat) ∧ (i 0 : Nat) < 0 * 1 + 1
                  omega
      | ⟨1, _⟩ => show 0 * 1 ≤ (i 1 : Nat) ∧ (i 1 : Nat) < 0 * 1 + 1
                  omega⟩

/-- The result read off it. -/
theorem res_7 (c : Dev nD) : Pipeline.afterTail₀ cfgs (dats m) 0 (V0 m) [hostOps1] c main_v8 = shapeCast S_ (giC m c) shapeCasts_S1x1_S_ := by
  unfold Pipeline.afterTail₀
  simp only [hostOps1, List.flatten_cons, List.flatten_nil, List.append_nil]
  after_results
  rw [Pipeline.withArrays_arr spec0 launch0.win.arr_inj c (V0 m c) (fun w => (dats m 0 c).arrAt w cfg0.N) 7, final_7]
  rfl

/-- The run, with the three results read and the arguments unchanged. -/
theorem run_values : θ_run defs (onTc (τ := τ) (main (F := F))) ⟨m, fun _ => 0, ρ⟩ (fun r => ∀ c : Dev nD,
      r.2.mem ((c.tc : Thread nD τ).loc main_v6) = shapeCast S_ (ceAt m c 3) shapeCasts_S1x1_S_
      ∧ r.2.mem ((c.tc : Thread nD τ).loc main_v7) = shapeCast S_ (l1C m c) shapeCasts_S1x1_S_
      ∧ r.2.mem ((c.tc : Thread nD τ).loc main_v8) = shapeCast S_ (giC m c) shapeCasts_S1x1_S_) :=
  (θ_run defs _ _).mono (fun _ h c => ⟨((h.1 c).2 main_v6 (Pipeline.mem_restRefs_of main_v6 (by decide) (by decide))).trans (res_5 m c),
      ((h.1 c).2 main_v7 (Pipeline.mem_restRefs_of main_v7 (by decide) (by decide))).trans (res_6 m c),
      ((h.1 c).2 main_v8 (Pipeline.mem_restRefs_of main_v8 (by decide) (by decide))).trans (res_7 m c)⟩) (run_main m ρ)

/-! ## The blocks, read off the arguments -/

theorem V_v0 (c : Dev nD) : V m c main_v0 = transpose S91x64x300 [2, 0, 1] (m ((c : Thread nD τ).loc main_arg0)) transposes_S64x300x91_S91x64x300_2_0_1 := by
  unfold V V0; simp only [hostOps0, List.flatten_cons, List.flatten_nil, List.append_nil]; after_results
theorem V_v1 (c : Dev nD) : V m c main_v1 = transpose S20x64 [1, 0] (m ((c : Thread nD τ).loc main_arg3)) transposes_S64x20_S20x64_1_0 := by
  unfold V V0; simp only [hostOps0, List.flatten_cons, List.flatten_nil, List.append_nil]; after_results
theorem V_v2 (c : Dev nD) : V m c main_v2 = transpose S20x64 [1, 0] (m ((c : Thread nD τ).loc main_arg4)) transposes_S64x20_S20x64_1_0 := by
  unfold V V0; simp only [hostOps0, List.flatten_cons, List.flatten_nil, List.append_nil]; after_results
theorem V_v3 (c : Dev nD) : V m c main_v3 = transpose S64x4x300 [0, 2, 1] (m ((c : Thread nD τ).loc main_arg1)) transposes_S64x300x4_S64x4x300_0_2_1 := by
  unfold V V0; simp only [hostOps0, List.flatten_cons, List.flatten_nil, List.append_nil]; after_results
theorem V_v4 (c : Dev nD) : V m c main_v4 = transpose S20x4x64 [1, 2, 0] (m ((c : Thread nD τ).loc main_arg2)) transposes_S64x20x4_S20x4x64_1_2_0 := by
  unfold V V0; simp only [hostOps0, List.flatten_cons, List.flatten_nil, List.append_nil]; after_results

theorem blk_1 (c : Dev nD) (t : Fin cfg0.N) : (iblk m c 1 t : Vec F S20x64 .i32) = V m c main_v1 := by
  have hz' : (fun a => win0_1.index t a * main_v1.ty.shape.size a) = fun _ => 0 := funext fun a => by
    match a with
    | ⟨0, _⟩ => rfl
    | ⟨1, _⟩ => rfl
  exact Memref.read_access_unit_zero (Elt F) main_v1 hz' (fun a => by rw [congrFun hz' a]; simp) (V m c main_v1)

theorem blk_2 (c : Dev nD) (t : Fin cfg0.N) : (iblk m c 2 t : Vec F S20x64 .i32) = V m c main_v2 := by
  have hz' : (fun a => win0_2.index t a * main_v2.ty.shape.size a) = fun _ => 0 := funext fun a => by
    match a with
    | ⟨0, _⟩ => rfl
    | ⟨1, _⟩ => rfl
  exact Memref.read_access_unit_zero (Elt F) main_v2 hz' (fun a => by rw [congrFun hz' a]; simp) (V m c main_v2)

theorem blk_3 (c : Dev nD) (t : Fin cfg0.N) : (iblk m c 3 t : Vec F S64x4x300 .f32) = V m c main_v3 := by
  have hz' : (fun a => win0_3.index t a * main_v3.ty.shape.size a) = fun _ => 0 := funext fun a => by
    match a with
    | ⟨0, _⟩ => rfl
    | ⟨1, _⟩ => rfl
    | ⟨2, _⟩ => rfl
  exact Memref.read_access_unit_zero (Elt F) main_v3 hz' (fun a => by rw [congrFun hz' a]; simp) (V m c main_v3)

theorem blk_4 (c : Dev nD) (t : Fin cfg0.N) : (iblk m c 4 t : Vec F S20x4x64 .f32) = V m c main_v4 := by
  have hz' : (fun a => win0_4.index t a * main_v4.ty.shape.size a) = fun _ => 0 := funext fun a => by
    match a with
    | ⟨0, _⟩ => rfl
    | ⟨1, _⟩ => rfl
    | ⟨2, _⟩ => rfl
  exact Memref.read_access_unit_zero (Elt F) main_v4 hz' (fun a => by rw [congrFun hz' a]; simp) (V m c main_v4)

end Cert.KernelIdeal.Hand

end
-- ==== Proof.Math.lean ====
module

public import Idealize.ShloMosaic.Lib.Pointwise
public import Idealize.ShloMosaic.PureOps

@[expose] public section

noncomputable section

namespace Cert.KernelIdeal.Hand

open Idealize.ShloMosaic

/-! ## Real forms of the focal loss -/

/-- The softplus `log (1 + e^x)` in the overflow-free spelling. -/
def sp (x : ℝ) : ℝ := max x 0 + Real.log (1 + Real.exp (-|x|))

/-- The logistic function. -/
def sg (x : ℝ) : ℝ := 1 / (1 + Real.exp (-x))

/-- The focal loss of a class that is not the target. -/
def lossNeg (x : ℝ) : ℝ := 3 / 4 * (sg x ^ 2 * sp x)

/-- The focal loss of the target class. -/
def lossPos (x : ℝ) : ℝ := 1 / 4 * ((1 - sg x) ^ 2 * (sp x - x))

theorem sp_eq_log (x : ℝ) : sp x = Real.log (1 + Real.exp x) := by
  unfold sp
  have hp : ∀ y : ℝ, (0 : ℝ) < 1 + Real.exp y := fun y => by positivity
  rcases le_total 0 x with h | h
  · rw [max_eq_left h, abs_of_nonneg h]
    have : 1 + Real.exp x = Real.exp x * (1 + Real.exp (-x)) := by
      rw [mul_add, ← Real.exp_add]; simp [add_comm]
    rw [this, Real.log_mul (Real.exp_pos x).ne' (hp _).ne', Real.log_exp]
  · rw [max_eq_right h, abs_of_nonpos h, neg_neg, zero_add]

/-- `e^(x - softplus x)` is the logistic function. -/
theorem exp_sub_sp (x : ℝ) : Real.exp (x - sp x) = sg x := by
  rw [sp_eq_log, Real.exp_sub, Real.exp_log (by positivity), sg, Real.exp_neg]
  have := Real.exp_pos x
  field_simp
  ring

/-- `e^(2 (x - softplus x))` is the squared logistic function. -/
theorem exp_two_sub_sp (x : ℝ) : Real.exp (2 * (x - sp x)) = sg x ^ 2 := by
  rw [two_mul, Real.exp_add, exp_sub_sp, sq]

/-- At a nonnegative argument the folded quotient is the logistic function. -/
theorem sg_of_nonneg {x : ℝ} (h : 0 ≤ x) : 1 / (1 + Real.exp (-|x|)) = sg x := by
  rw [abs_of_nonneg h, sg]

/-- At a negative argument the complement of the folded quotient is the logistic function. -/
theorem sg_of_neg {x : ℝ} (h : x < 0) : 1 - 1 / (1 + Real.exp (-|x|)) = sg x := by
  rw [abs_of_neg h, neg_neg, sg, Real.exp_neg]
  have := Real.exp_pos x
  field_simp
  ring

theorem sg_lt_one (x : ℝ) : sg x < 1 := by
  unfold sg
  rw [div_lt_one (by positivity)]
  linarith [Real.exp_pos (-x)]

theorem sg_pos (x : ℝ) : 0 < sg x := by
  unfold sg; positivity

/-! ## Real readings of the extended-real operations -/

theorem coe_max (a b : ℝ) : ((max a b : ℝ) : EReal) = max (a : EReal) (b : EReal) :=
  EReal.coe_strictMono.monotone.map_max

theorem absf_coe (r : ℝ) : (FloatOps.absf (F := Ideal) (φ := .f32) (r : EReal) : EReal) = ((|r| : ℝ) : EReal) := by
  show max (r : EReal) (-(r : EReal)) = _
  rw [← EReal.coe_neg, ← coe_max]; rfl

/-- The folded exponential `e^(-|x|)` of a real. -/
theorem exp_negabs (r : ℝ) : Ideal.exp (0 - FloatOps.absf (F := Ideal) (φ := .f32) (r : EReal)) = ((Real.exp (-|r|) : ℝ) : EReal) := by
  rw [absf_coe, ← EReal.coe_zero, ← EReal.coe_sub, Ideal.exp_coe, zero_sub]

theorem one_add_coe (r : ℝ) : (1 : EReal) + (r : EReal) = ((1 + r : ℝ) : EReal) := by
  rw [EReal.coe_add, EReal.coe_one]

theorem log_one_add_coe {r : ℝ} (h : 0 < r) : Ideal.log (1 + (r : EReal)) = ((Real.log (1 + r) : ℝ) : EReal) := by
  rw [one_add_coe, Ideal.log_coe, if_neg (by linarith)]

/-- The softplus on extended reals, at a real. -/
theorem sp_coe (r : ℝ) : max (r : EReal) 0 + Ideal.log (1 + Ideal.exp (0 - FloatOps.absf (F := Ideal) (φ := .f32) (r : EReal))) = ((sp r : ℝ) : EReal) := by
  rw [exp_negabs, log_one_add_coe (Real.exp_pos _), ← EReal.coe_zero, ← coe_max, ← EReal.coe_add]; rfl

theorem div_one_coe {r : ℝ} (h : r ≠ 0) : Ideal.div 1 (r : EReal) = ((1 / r : ℝ) : EReal) := by
  rw [Ideal.div_coe h, one_mul]

theorem one_sub_coe (r : ℝ) : (1 : EReal) - (r : EReal) = ((1 - r : ℝ) : EReal) := by
  rw [EReal.coe_sub, EReal.coe_one]

/-- The two-branch logistic function on extended reals, at a real. -/
theorem sg_branch (r : ℝ) :
    (if (0 : EReal) ≤ (r : EReal) then Ideal.div 1 (1 + Ideal.exp (0 - FloatOps.absf (F := Ideal) (φ := .f32) (r : EReal)))
      else 1 - Ideal.div 1 (1 + Ideal.exp (0 - FloatOps.absf (F := Ideal) (φ := .f32) (r : EReal)))) = ((sg r : ℝ) : EReal) := by
  have hp : (1 + Real.exp (-|r|) : ℝ) ≠ 0 := by positivity
  rw [exp_negabs, one_add_coe, div_one_coe hp, one_sub_coe]
  split_ifs with h
  · rw [sg_of_nonneg (EReal.coe_nonneg.mp h)]
  · rw [sg_of_neg (by simpa using h)]

theorem lit_quarter : Ideal.ofBits .f32 0x3E800000#32 = ((1 / 4 : ℝ) : EReal) := by
  simp [Ideal.ofBits, Ideal.ieee, -EReal.coe_mul]; norm_num

theorem lit_three_quarters : Ideal.ofBits .f32 0x3F400000#32 = ((3 / 4 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_1280 : Ideal.ofBits .f32 0x44A00000#32 = ((1280 : ℝ) : EReal) := by
  simp [Ideal.ofBits, Ideal.ieee, -EReal.coe_mul]; norm_num

theorem lit_300 : Ideal.ofBits .f32 0x43960000#32 = ((300 : ℝ) : EReal) := by
  simp [Ideal.ofBits, Ideal.ieee, -EReal.coe_mul]; norm_num

/-- A finite sum of reals, read as extended reals. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) f s

/-! ## The class of a query: the label of the last matched slot -/

/-- `v` is the class of query `q` of image `b`: the label of the last slot matched to it, or 91 when none is. -/
def IsCls (s : Fin 64 → Fin 20 → Fin 300) (l : Fin 64 → Fin 20 → Fin 91) (b : Fin 64) (q : Fin 300) (v : ℕ) : Prop :=
  (v = 91 ∧ ∀ t, s b t ≠ q) ∨ ∃ t, s b t = q ∧ (∀ t', t < t' → s b t' ≠ q) ∧ v = (l b t).val

theorem IsCls.unique {s : Fin 64 → Fin 20 → Fin 300} {l : Fin 64 → Fin 20 → Fin 91} {b : Fin 64} {q : Fin 300} {v w : ℕ}
    (hv : IsCls s l b q v) (hw : IsCls s l b q w) : v = w := by
  rcases hv with ⟨rfl, hv⟩ | ⟨t, ht, hv, rfl⟩ <;> rcases hw with ⟨rfl, hw⟩ | ⟨t', ht', hw, rfl⟩
  · rfl
  · exact absurd ht' (hv t')
  · exact absurd ht (hw t)
  · rcases lt_trichotomy t t' with h | rfl | h
    · exact absurd ht' (hv t' h)
    · rfl
    · exact absurd ht (hw t h)

theorem IsCls.le {s : Fin 64 → Fin 20 → Fin 300} {l : Fin 64 → Fin 20 → Fin 91} {b : Fin 64} {q : Fin 300} {v : ℕ}
    (hv : IsCls s l b q v) : v ≤ 91 := by
  rcases hv with ⟨rfl, _⟩ | ⟨t, _, _, rfl⟩
  · exact le_refl _
  · exact (l b t).isLt.le

end Cert.KernelIdeal.Hand
end
-- ==== Proof.KVal.lean ====
module

public import proofs.«01_k».proof.Proof.Result
public import proofs.«01_k».proof.Proof.Math
public import Idealize.ShloMosaic.Lib.Pointwise
public import Idealize.ShloMosaic.Lib.SortNet.Extract

@[expose] public section

set_option maxRecDepth 16384

noncomputable section

namespace Cert.KernelIdeal.Hand

open Cert.KernelIdeal Cert.KernelIdeal.Gen
open Idealize.ShloMosaic Idealize.ShloMosaic.TcCoe

/-- The named reciprocal of the number of pairs. -/
theorem inv_nb_val : (Named.named (F := Ideal) (φ := .f32) κ "inv_nb" 978111693#32 : EReal) = ((1 / 1280 : ℝ) : EReal) :=
  IdealRules.named_const.ideal_named_scalar _ _ _ _ rfl

/-- Equality of two small words decides equality of the numbers. -/
theorem cmpi_eq_ofNat (a b : ℕ) (ha : a < 4294967296) (hb : b < 4294967296) :
    IntOp.cmpi CmpIPredicate.eq (BitVec.ofNat 32 a) (BitVec.ofNat 32 b) = if a = b then 1#1 else 0#1 := by
  unfold IntOp.cmpi
  by_cases h : a = b
  · subst h; simp
  · rw [if_neg h]
    have : BitVec.ofNat 32 a ≠ BitVec.ofNat 32 b := fun h' => h (by
      have := congrArg BitVec.toNat h'
      simpa [BitVec.toNat_ofNat, Nat.mod_eq_of_lt ha, Nat.mod_eq_of_lt hb] using this)
    show BitVec.ofBool (BitVec.ofNat 32 a == BitVec.ofNat 32 b) = 0#1
    rw [beq_eq_false_iff_ne.mpr this]; rfl

/-- The equality bit of two small words, as a number. -/
theorem sitofp_eq (a b : ℕ) (ha : a < 4294967296) (hb : b < 4294967296) :
    (FloatOps.sitofp (F := Ideal) FTy.f32 (BitVec.setWidth 32 (IntOp.cmpi CmpIPredicate.eq (BitVec.ofNat 32 a) (BitVec.ofNat 32 b))) : EReal)
      = if a = b then 1 else 0 := by
  rw [cmpi_eq_ofNat a b ha hb]
  split_ifs
  · show ((((BitVec.setWidth 32 1#1).toInt : ℤ) : ℝ) : EReal) = 1
    simp
  · show ((((BitVec.setWidth 32 0#1).toInt : ℤ) : ℝ) : EReal) = 0
    simp

/-- A one-hot row times a vector is the vector's entry. -/
theorem onehot_sum (w : BitVec 32) (k : Fin 300) (hw : w = BitVec.ofNat 32 k.val) (f : Fin 300 → EReal) :
    (∑ x, (FloatOps.sitofp (F := Ideal) FTy.f32 (BitVec.setWidth 32 (IntOp.cmpi CmpIPredicate.eq w (BitVec.ofNat 32 x.val))) : EReal) * f x) = f k := by
  subst hw
  have h : ∀ x : Fin 300, (FloatOps.sitofp (F := Ideal) FTy.f32 (BitVec.setWidth 32 (IntOp.cmpi CmpIPredicate.eq (BitVec.ofNat 32 k.val) (BitVec.ofNat 32 x.val))) : EReal) * f x
      = if k = x then f x else 0 := by
    intro x
    rw [sitofp_eq _ _ (by omega) (by omega)]
    by_cases hk : k = x
    · subst hk; simp
    · rw [if_neg (fun h => hk (Fin.ext h)), if_neg hk, zero_mul]
  rw [Finset.sum_congr rfl (fun x _ => h x)]
  simp

section Boxes

variable (si : Vec Ideal S20x64 .i32) (pb : Vec Ideal S64x4x300 .f32) (tb : Vec Ideal S20x4x64 .f32)
  (s : Fin 64 → Fin 20 → Fin 300) (hs : ∀ b t, si (ix2 t b) = BitVec.ofNat 32 (s b t).val)

include hs

/-- A matched predicted box's coordinate is the coordinate of the box its slot points to. -/
theorem srcCo_at (k : Fin 4) (t : Fin 20) (b : Fin 64) : srcCo (F := Ideal) si pb k (ix2 t b) = pb (ix3 b k (s b t)) := by
  fin_cases k <;>
  · pointwise [srcCo, k0_pay8, k0_pay5, k0_pay3, pbRow]
    exact onehot_sum _ (s b t) (hs b t) _

omit hs in
theorem tgtCo_at (k : Fin 4) (t : Fin 20) (b : Fin 64) : tgtCo (F := Ideal) tb k (ix2 t b) = tb (ix3 t k b) := by
  fin_cases k <;>
  · pointwise [tgtCo, k0_pay7, tbRow]

omit hs in
theorem tbRow_at (k : Fin 4) (t : Fin 20) (b : Fin 64) : tbRow (F := Ideal) tb k (ix3 t 0 b) = tb (ix3 t k b) := by
  fin_cases k <;>
  · pointwise [tbRow]

/-- The absolute coordinate differences of one matched pair, added up. -/
def l1Pair (p0 p1 p2 p3 d0 d1 d2 d3 : EReal) : EReal :=
  FloatOps.absf (F := Ideal) (φ := .f32) (p0 - d0) + FloatOps.absf (F := Ideal) (φ := .f32) (p1 - d1)
    + FloatOps.absf (F := Ideal) (φ := .f32) (p2 - d2) + FloatOps.absf (F := Ideal) (φ := .f32) (p3 - d3)

/-- The kernel's second result: the pairs' coordinate differences, averaged. -/
theorem l1Cell_at : l1Cell (F := Ideal) si pb tb (ix2 0 0)
    = (∑ t : Fin 20, ∑ b : Fin 64, l1Pair (pb (ix3 b 0 (s b t))) (pb (ix3 b 1 (s b t))) (pb (ix3 b 2 (s b t))) (pb (ix3 b 3 (s b t)))
        (tb (ix3 t 0 b)) (tb (ix3 t 1 b)) (tb (ix3 t 2 b)) (tb (ix3 t 3 b))) * ((1 / 1280 : ℝ) : EReal) := by
  have h0 := srcCo_at si pb s hs 0
  have h1 := srcCo_at si pb s hs 1
  have h2 := srcCo_at si pb s hs 2
  have h3 := srcCo_at si pb s hs 3
  pointwise [l1Cell, k0_pay15, k0_pay14, k0_pay7, k0_pay9, k0_pay11, k0_pay13]
  rw [inv_nb_val]
  refine congrArg (fun z : EReal => z * ((1 / 1280 : ℝ) : EReal)) ?_
  refine Finset.sum_congr rfl fun t _ => Finset.sum_congr rfl fun b _ => ?_
  rw [tbRow_at, tbRow_at, tbRow_at, tbRow_at, ← h0, ← h1, ← h2, ← h3]
  rfl

/-- The generalised overlap loss of one matched pair, from the centre and size coordinates; `enc` is the enclosing box's sides. -/
def giPair (p0 p1 p2 p3 d0 d1 d2 d3 : EReal) : EReal :=
  let h : EReal := Ideal.ofBits FTy.f32 1056964608#32
  let iw := max (min (p0 + h * p2) (d0 + h * d2) - max (p0 - h * p2) (d0 - h * d2)) 0
  let ih := max (min (p1 + h * p3) (d1 + h * d3) - max (p1 - h * p3) (d1 - h * d3)) 0
  let inter := iw * ih
  let union := (p0 + h * p2 - (p0 - h * p2)) * (p1 + h * p3 - (p1 - h * p3))
      + (d0 + h * d2 - (d0 - h * d2)) * (d1 + h * d3 - (d1 - h * d3)) - inter
  let hull := (max (p0 + h * p2) (d0 + h * d2) - min (p0 - h * p2) (d0 - h * d2))
      * (max (p1 + h * p3) (d1 + h * d3) - min (p1 - h * p3) (d1 - h * d3))
  1 - (Ideal.div inter union - Ideal.div (hull - union) hull)

/-- The kernel's third result: the pairs' overlap losses, averaged. -/
theorem giCell_at : giCell (F := Ideal) si pb tb (ix2 0 0)
    = (∑ t : Fin 20, ∑ b : Fin 64, giPair (pb (ix3 b 0 (s b t))) (pb (ix3 b 1 (s b t))) (pb (ix3 b 2 (s b t))) (pb (ix3 b 3 (s b t)))
        (tb (ix3 t 0 b)) (tb (ix3 t 1 b)) (tb (ix3 t 2 b)) (tb (ix3 t 3 b))) * ((1 / 1280 : ℝ) : EReal) := by
  have h0 := srcCo_at si pb s hs 0
  have h1 := srcCo_at si pb s hs 1
  have h2 := srcCo_at si pb s hs 2
  have h3 := srcCo_at si pb s hs 3
  pointwise [giCell, k0_pay16, k0_pay17, k0_pay18, k0_pay19, k0_pay20, k0_pay21, k0_pay22, k0_pay23, k0_pay24, k0_pay25, k0_pay26, k0_pay27, k0_pay28, k0_pay29]
  rw [inv_nb_val]
  refine congrArg (fun z : EReal => z * ((1 / 1280 : ℝ) : EReal)) ?_
  refine Finset.sum_congr rfl fun t _ => Finset.sum_congr rfl fun b _ => ?_
  rw [h0, h1, h2, h3, tgtCo_at tb 0, tgtCo_at tb 1, tgtCo_at tb 2, tgtCo_at tb 3]
  simp only [giPair]

end Boxes

/-! ## The class table -/

/-- A hit's key `t * 128 + label`, as a word. -/
theorem key_word (t l : ℕ) : IntOp.addi (IntOp.muli (BitVec.ofNat 32 t) 128#32) (BitVec.ofNat 32 l) = BitVec.ofNat 32 (t * 128 + l) := by
  unfold IntOp.addi IntOp.muli
  rw [BitVec.ofNat_add, BitVec.ofNat_mul]

theorem toInt_small (n : ℕ) (h : n < 2147483648) : (BitVec.ofNat 32 n).toInt = n := by
  rw [BitVec.toInt_eq_toNat_cond, BitVec.toNat_ofNat, Nat.mod_eq_of_lt (by omega), if_pos (by omega)]

/-- The class table holds, of every query, the label of the last slot matched to it. -/
theorem clsTab_at (si tl : Vec Ideal S20x64 .i32) (s : Fin 64 → Fin 20 → Fin 300) (l : Fin 64 → Fin 20 → Fin 91)
    (hs : ∀ b t, si (ix2 t b) = BitVec.ofNat 32 (s b t).val) (hl : ∀ b t, tl (ix2 t b) = BitVec.ofNat 32 (l b t).val)
    (b : Fin 64) (q : Fin 300) : ∃ v, IsCls s l b q v ∧ clsTab (F := Ideal) si tl (ix2 b q) = BitVec.ofNat 32 v := by
  have hg : ∀ t : Fin 20, Scalar.select (IntOp.cmpi CmpIPredicate.eq (si (ix2 t b)) (BitVec.ofNat 32 q.val))
      (IntOp.addi (IntOp.muli (BitVec.ofNat 32 t.val) 128#32) (tl (ix2 t b))) 4294967295#32
      = if s b t = q then BitVec.ofNat 32 (t.val * 128 + (l b t).val) else 4294967295#32 := by
    intro t
    rw [hs, hl, key_word, cmpi_eq_ofNat _ _ (by omega) (by omega)]
    by_cases h : s b t = q
    · rw [if_pos (congrArg Fin.val h), if_pos h]; rfl
    · rw [if_neg (fun h' => h (Fin.ext h')), if_neg h]; rfl
  pointwise [clsTab, k0_pay4, k0_pay3]
  rw [Finset.fold_congr (fun t _ => hg t)]
  obtain ⟨-, hub, hat⟩ := SortNet.fold_maxsi_spec (fun t : Fin 20 => if s b t = q then BitVec.ofNat 32 (t.val * 128 + (l b t).val) else 4294967295#32)
    Finset.univ 2147483648#32
  generalize Finset.fold IntOp.maxsi (2147483648#32) (fun t : Fin 20 => if s b t = q then BitVec.ofNat 32 (t.val * 128 + (l b t).val) else 4294967295#32) Finset.univ = M at hub hat ⊢
  have hmin : M ≠ 2147483648#32 := by
    intro h
    have := hub 0 (Finset.mem_univ _)
    rw [h] at this
    split_ifs at this with h'
    · rw [toInt_small _ (by omega)] at this
      have e : (2147483648#32 : BitVec 32).toInt = -2147483648 := by decide
      omega
    · exact absurd this (by decide)
  rcases hat with hat | ⟨t, -, hat⟩
  · exact absurd hat hmin
  by_cases h : s b t = q
  · rw [if_pos h] at hat
    refine ⟨(l b t).val, Or.inr ⟨t, h, fun t' ht' hq => ?_, rfl⟩, ?_⟩
    · have := hub t' (Finset.mem_univ _)
      rw [if_pos hq, hat, toInt_small _ (by omega), toInt_small _ (by omega)] at this
      have : (t.val : ℕ) < t'.val := ht'
      omega
    · have h0 : IntOp.cmpi CmpIPredicate.sge M 0#32 = 1#1 := by
        unfold IntOp.cmpi
        have : (0#32 : BitVec 32).sle M = true := by
          have e : (0#32 : BitVec 32).toInt = 0 := rfl
          rw [BitVec.sle_iff_toInt_le, hat, e, toInt_small _ (by omega)]
          exact Int.natCast_nonneg _
        simp [this]
      rw [h0, hat]
      show IntOp.andi _ _ = _
      unfold IntOp.andi
      apply BitVec.eq_of_toNat_eq
      rw [BitVec.toNat_and, BitVec.toNat_ofNat, BitVec.toNat_ofNat, BitVec.toNat_ofNat, Nat.mod_eq_of_lt (by omega), Nat.mod_eq_of_lt (by omega),
        Nat.mod_eq_of_lt (by omega)]
      rw [show (127 : ℕ) = 2 ^ 7 - 1 from rfl, Nat.and_two_pow_sub_one_eq_mod]
      omega
  · rw [if_neg h] at hat
    refine ⟨91, Or.inl ⟨rfl, fun t' hq => ?_⟩, ?_⟩
    · have := hub t' (Finset.mem_univ _)
      rw [if_pos hq, hat, toInt_small _ (by omega)] at this
      have e : (4294967295#32 : BitVec 32).toInt = -1 := by decide
      omega
    · rw [hat]
      decide

/-! ## The cross-entropy cell -/

/-- The target class's correction at a table word: nothing for a query of no class. -/
def corr (v : ℕ) (f : Fin 91 → ℝ) : ℝ := if h : v < 91 then lossPos (f ⟨v, h⟩) - lossNeg (f ⟨v, h⟩) else 0

section CE

variable (x : Vec Ideal S91x16x300 .f32) (xr : Fin 91 → Fin 16 → Fin 300 → ℝ) (hx : ∀ c r q, x (ix3 c r q) = ((xr c r q : ℝ) : EReal))

include hx

/-- The block's sum of squared logistics times softplus. -/
theorem pay31_val : (k0_pay31 (F := Ideal) x : EReal) = ((∑ c, ∑ r, ∑ q, sg (xr c r q) ^ 2 * sp (xr c r q) : ℝ) : EReal) := by
  pointwise [k0_pay31, k0_pay30]
  rw [Ideal.reduceAdd_total _ (by decide), sum_idx4, Fin.sum_univ_one, coe_sum]
  refine Finset.sum_congr rfl fun c _ => ?_
  rw [coe_sum]
  refine Finset.sum_congr rfl fun r _ => ?_
  rw [coe_sum]
  refine Finset.sum_congr rfl fun q _ => ?_
  pointwise []
  rw [hx, sp_coe, ← EReal.coe_sub, lit_two, ← EReal.coe_mul, Ideal.exp_coe, exp_two_sub_sp, ← EReal.coe_mul]

variable (K : Vec Ideal S16x300 .i32) (v : Fin 16 → Fin 300 → ℕ) (hv : ∀ r q, v r q ≤ 91) (hK : ∀ r q, K (ix2 r q) = BitVec.ofNat 32 (v r q))

include hv hK

/-- The target class's logit of a query, zero for a query of no class. -/
theorem pay32_val (r : Fin 16) (q : Fin 300) :
    (k0_pay32 (F := Ideal) x K (ix2 r q) : EReal) = ((if h : v r q < 91 then xr ⟨v r q, h⟩ r q else 0 : ℝ) : EReal) := by
  pointwise [k0_pay32, k0_pay30]
  have hsel : ∀ c : Fin 91, Scalar.select (IntOp.cmpi CmpIPredicate.eq (BitVec.ofNat 32 c.val) (K (ix2 r q))) (x (ix3 c r q)) (0 : EReal)
      = if c.val = v r q then ((xr c r q : ℝ) : EReal) else 0 := by
    intro c
    have := hv r q
    rw [hK, cmpi_eq_ofNat _ _ (by omega) (by omega), hx]
    split_ifs <;> rfl
  rw [Finset.sum_congr rfl (fun c _ => hsel c)]
  split_ifs with h
  · rw [Finset.sum_eq_single (⟨v r q, h⟩ : Fin 91)]
    · rw [if_pos rfl]
    · intro c _ hc
      exact if_neg (fun h' => hc (Fin.ext h'))
    · intro h'; exact absurd (Finset.mem_univ _) h'
  · refine Finset.sum_eq_zero fun c _ => if_neg ?_
    omega

omit hx hv hK in
/-- A small word is under 91 exactly when its number is. -/
theorem slt_91 (n : ℕ) (h : n ≤ 91) : IntOp.cmpi CmpIPredicate.slt (BitVec.ofNat 32 n) 91#32 = if n < 91 then 1#1 else 0#1 := by
  interval_cases n <;> rfl

/-- One point's term of the running cell. -/
theorem pay1_val (acc : Vec Ideal S1x1 .f32) :
    (k0_pay1 (F := Ideal) K (k0_pay31 x) (k0_pay32 x K) (k0_pay33 x K) (k0_pay34 x K) acc (ix2 0 0) : EReal)
      = acc (ix2 0 0) + (((∑ c, ∑ r, ∑ q, lossNeg (xr c r q) + ∑ r, ∑ q, corr (v r q) (fun c => xr c r q)) / 1280 : ℝ) : EReal) := by
  have h31 := pay31_val x xr hx
  have h32 := pay32_val x xr hx K v hv hK
  pointwise [k0_pay1, k0_pay33, k0_pay34]
  refine congrArg (fun z : EReal => acc (ix2 0 0) + z) ?_
  have hdiv : ∀ a b : ℝ, (a + b) / 1280 = (a + b) * (1 / 1280) := fun a b => div_eq_mul_one_div (a + b) 1280
  rw [h31, inv_nb_val, hdiv, EReal.coe_mul, EReal.coe_add, lit_three_quarters, lit_quarter, ← EReal.coe_mul]
  refine congrArg (fun z : EReal => z * ((1 / 1280 : ℝ) : EReal)) ?_
  refine congrArg₂ (fun y z : EReal => y + z) ?_ ?_
  · simp only [lossNeg, Finset.mul_sum]
  · rw [coe_sum]
    refine Finset.sum_congr rfl fun r _ => ?_
    rw [coe_sum]
    refine Finset.sum_congr rfl fun q _ => ?_
    rw [h32, hK, slt_91 _ (hv r q), sg_branch, sp_coe, one_sub_coe]
    unfold corr
    split_ifs with h
    · show (_ : EReal) = _
      simp only [Scalar.select, ← EReal.coe_mul, ← EReal.coe_sub]
      refine (if_pos rfl).trans (congrArg _ ?_)
      unfold lossPos lossNeg
      ring
    · rw [EReal.coe_zero]; rfl

end CE

end Cert.KernelIdeal.Hand
end
-- ==== Proof.KFin.lean ====
module

public import proofs.«01_k».proof.Proof.KVal

@[expose] public section

set_option maxRecDepth 16384

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

/-! ## The windows' blocks, in terms of the arguments -/

/-- The first window's block at point `t`: sixteen images' logits, class first. -/
theorem xBlk_at (t : Fin cfg0.N) (k : Fin 91) (r : Fin 16) (q : Fin 300) (b : Fin 64) (hb : b.val = 16 * t.val + r.val) :
    (xBlk m c t : Vec Ideal S91x16x300 .f32) (ix3 k r q) = (m ((c.tc : Thread nD τ).loc main_arg0) : Vec Ideal S64x300x91 .f32) (ix3 b q k) := by
  have hv : (V m c main_v0 : Vec Ideal S91x64x300 .f32) (ix3 k b q) = (m ((c.tc : Thread nD τ).loc main_arg0) : Vec Ideal S64x300x91 .f32) (ix3 b q k) := by
    rw [V_v0]
    pointwise []
  have hi : win0_0.index t 1 = t.val := by
    rcases fin_N0 t with rfl | rfl | rfl | rfl <;> decide
  rw [← hv]
  unfold xBlk iblk
  rw [View.read_apply]
  show V m c main_v0 _ = _
  congr 1
  funext a
  apply Fin.ext
  match a with
  | ⟨0, _⟩ => show 0 * 91 + 1 * (k : ℕ) = k; omega
  | ⟨1, _⟩ => show win0_0.index t 1 * 16 + 1 * (r : ℕ) = b; rw [hi]; omega
  | ⟨2, _⟩ => show 0 * 300 + 1 * (q : ℕ) = q; omega

/-- The rows of a whole table a point reads. -/
theorem rowsAt_at (t : Fin cfg0.N) (K : Vec Ideal S64x300 .i32) (r : Fin 16) (q : Fin 300) (b : Fin 64) (hb : b.val = 16 * t.val + r.val) :
    rowsAt (F := Ideal) (grid0.coords t) K (ix2 r q) = K (ix2 b q) := by
  have e0 : (grid0.coords t 0).val = t.val / 1 % 4 := Pipeline.Grid.coords_val t 0 (by decide) rfl
  have ht : t.val < 4 := lt_of_lt_of_eq t.isLt (show cfg0.N = 4 from N_0)
  have ho0 : k0_off1 (grid0.coords t) 0 = 16 * (grid0.coords t 0).val := congrFun (k0_off1_eq _) 0
  have ho1 : k0_off1 (grid0.coords t) 1 = 0 := congrFun (k0_off1_eq _) 1
  pointwise [rowsAt]
  refine congrArg K (congrArg₂ ix2 (Fin.ext ?_) (Fin.ext ?_))
  · show k0_off1 (grid0.coords t) 0 + (r : ℕ) = b
    rw [ho0, e0]; omega
  · show k0_off1 (grid0.coords t) 1 + (q : ℕ) = q
    rw [ho1]; omega

/-- The slot table of the second window, slot first. -/
theorem slots_at (t : Fin cfg0.N) (b : Fin 64) (u : Fin 20) :
    (iblk m c 1 t : Vec Ideal S20x64 .i32) (ix2 u b) = (m ((c.tc : Thread nD τ).loc main_arg3) : Vec Ideal S64x20 .i32) (ix2 b u) := by
  rw [blk_1, V_v1]
  pointwise []

/-- The label table of the third window, slot first. -/
theorem labels_at (t : Fin cfg0.N) (b : Fin 64) (u : Fin 20) :
    (iblk m c 2 t : Vec Ideal S20x64 .i32) (ix2 u b) = (m ((c.tc : Thread nD τ).loc main_arg4) : Vec Ideal S64x20 .i32) (ix2 b u) := by
  rw [blk_2, V_v2]
  pointwise []

/-- The predicted boxes of the fourth window, coordinate before query. -/
theorem pred_at (t : Fin cfg0.N) (b : Fin 64) (k : Fin 4) (q : Fin 300) :
    (iblk m c 3 t : Vec Ideal S64x4x300 .f32) (ix3 b k q) = (m ((c.tc : Thread nD τ).loc main_arg1) : Vec Ideal S64x300x4 .f32) (ix3 b q k) := by
  rw [blk_3, V_v3]
  pointwise []

/-- The target boxes of the fifth window, slot and coordinate first. -/
theorem tgt_at (t : Fin cfg0.N) (b : Fin 64) (k : Fin 4) (u : Fin 20) :
    (iblk m c 4 t : Vec Ideal S20x4x64 .f32) (ix3 u k b) = (m ((c.tc : Thread nD τ).loc main_arg2) : Vec Ideal S64x20x4 .f32) (ix3 b u k) := by
  rw [blk_4, V_v4]
  pointwise []

section Values

variable (s : Fin 64 → Fin 20 → Fin 300) (l : Fin 64 → Fin 20 → Fin 91) (xr : Fin 64 → Fin 300 → Fin 91 → ℝ)
  (hs : ∀ b t, (m ((c.tc : Thread nD τ).loc main_arg3) : Vec Ideal S64x20 .i32) (ix2 b t) = BitVec.ofNat 32 (s b t).val)
  (hl : ∀ b t, (m ((c.tc : Thread nD τ).loc main_arg4) : Vec Ideal S64x20 .i32) (ix2 b t) = BitVec.ofNat 32 (l b t).val)
  (hx : ∀ b q k, (m ((c.tc : Thread nD τ).loc main_arg0) : Vec Ideal S64x300x91 .f32) (ix3 b q k) = ((xr b q k : ℝ) : EReal))

/-- One image's focal loss: every class as a non-target, then the target classes' corrections. -/
def imgLoss (xr : Fin 64 → Fin 300 → Fin 91 → ℝ) (v : Fin 64 → Fin 300 → ℕ) (b : Fin 64) : ℝ :=
  ∑ k, ∑ q, lossNeg (xr b q k) + ∑ q, corr (v b q) (fun k => xr b q k)

include hs hl hx in
/-- The kernel's first result: the images' focal losses, over the number of pairs. -/
theorem ceAt_val : ∃ v : Fin 64 → Fin 300 → ℕ, (∀ b q, IsCls s l b q (v b q)) ∧
    (ceAt m c 3 : Vec Ideal S1x1 .f32) (ix2 0 0) = ((((∑ b, imgLoss xr v b) / 1280 : ℝ)) : EReal) := by
  have hcls := clsTab_at (iblk m c 1 (ptOf 0)) (iblk m c 2 (ptOf 0)) s l
    (fun b t => (slots_at m c (ptOf 0) b t).trans (hs b t)) (fun b t => (labels_at m c (ptOf 0) b t).trans (hl b t))
  choose v hv hK using hcls
  refine ⟨v, hv, ?_⟩
  have row : ∀ (g : Fin 4) (r : Fin 16), 16 * g.val + r.val < 64 := fun g r => by omega
  have step : ∀ (g : Fin 4) (acc : Vec Ideal S1x1 .f32) (z : ℝ), acc (ix2 0 0) = (z : EReal) →
      ceStep (F := Ideal) (grid0.coords (ptOf g.val)) (xBlk m c (ptOf g.val)) (clsC m c) acc (ix2 0 0)
        = ((z + (∑ r : Fin 16, imgLoss xr v ⟨16 * g.val + r.val, row g r⟩) / 1280 : ℝ) : EReal) := by
    intro g acc z hz
    have hg : (ptOf g.val).val = g.val := Nat.mod_eq_of_lt g.isLt
    have h := pay1_val (xBlk m c (ptOf g.val)) (fun k r q => xr ⟨16 * g.val + r.val, row g r⟩ q k)
      (fun k r q => (xBlk_at m c (ptOf g.val) k r q ⟨16 * g.val + r.val, row g r⟩ (by rw [hg])).trans (hx _ _ _))
      (rowsAt (F := Ideal) (grid0.coords (ptOf g.val)) (clsC m c)) (fun r q => v ⟨16 * g.val + r.val, row g r⟩ q) (fun r q => (hv _ _).le)
      (fun r q => (rowsAt_at (ptOf g.val) (clsC m c) r q ⟨16 * g.val + r.val, row g r⟩ (by rw [hg])).trans (hK _ _)) acc
    refine h.trans ?_
    rw [hz, ← EReal.coe_add]
    refine congrArg (fun y : ℝ => (y : EReal)) (congrArg (fun y : ℝ => z + y / 1280) ?_)
    unfold imgLoss
    rw [Finset.sum_add_distrib, Finset.sum_comm]
  have z0 : (k0_pay2 (F := Ideal) : Vec Ideal S1x1 .f32) (ix2 0 0) = ((0 : ℝ) : EReal) := by
    pointwise [k0_pay2]
    rfl
  have a0 := step 0 (k0_pay2 (F := Ideal)) 0 z0
  have a1 := step 1 _ _ a0
  have a2 := step 2 _ _ a1
  have a3 := step 3 _ _ a2
  refine (show _ = _ from a3).trans ?_
  refine congrArg (fun y : ℝ => (y : EReal)) ?_
  have hsum : ∑ b : Fin 64, imgLoss xr v b = ∑ g : Fin 4, ∑ r : Fin 16, imgLoss xr v ⟨16 * g.val + r.val, row g r⟩ := by
    rw [← Finset.sum_product', Finset.univ_product_univ]
    refine (Fintype.sum_equiv (finProdFinEquiv (m := 4) (n := 16)) _ _ fun p => ?_).symm
    refine congrArg (imgLoss xr v) (Fin.ext ?_)
    show 16 * p.1.val + p.2.val = p.2.val + 16 * p.1.val
    omega
  rw [hsum, Fin.sum_univ_four]
  ring

include hs in
/-- The kernel's second result. -/
theorem l1C_val : (l1C m c : Vec Ideal S1x1 .f32) (ix2 0 0)
    = (∑ t : Fin 20, ∑ b : Fin 64, l1Pair
        ((m ((c.tc : Thread nD τ).loc main_arg1) : Vec Ideal S64x300x4 .f32) (ix3 b (s b t) 0)) ((m ((c.tc : Thread nD τ).loc main_arg1) : Vec Ideal S64x300x4 .f32) (ix3 b (s b t) 1))
        ((m ((c.tc : Thread nD τ).loc main_arg1) : Vec Ideal S64x300x4 .f32) (ix3 b (s b t) 2)) ((m ((c.tc : Thread nD τ).loc main_arg1) : Vec Ideal S64x300x4 .f32) (ix3 b (s b t) 3))
        ((m ((c.tc : Thread nD τ).loc main_arg2) : Vec Ideal S64x20x4 .f32) (ix3 b t 0)) ((m ((c.tc : Thread nD τ).loc main_arg2) : Vec Ideal S64x20x4 .f32) (ix3 b t 1))
        ((m ((c.tc : Thread nD τ).loc main_arg2) : Vec Ideal S64x20x4 .f32) (ix3 b t 2)) ((m ((c.tc : Thread nD τ).loc main_arg2) : Vec Ideal S64x20x4 .f32) (ix3 b t 3)))
      * ((1 / 1280 : ℝ) : EReal) := by
  refine (l1Cell_at (iblk m c 1 (ptOf 0)) (iblk m c 3 (ptOf 0)) (iblk m c 4 (ptOf 0)) s
    (fun b t => (slots_at m c (ptOf 0) b t).trans (hs b t))).trans ?_
  simp only [pred_at, tgt_at]

include hs in
/-- The kernel's third result. -/
theorem giC_val : (giC m c : Vec Ideal S1x1 .f32) (ix2 0 0)
    = (∑ t : Fin 20, ∑ b : Fin 64, giPair
        ((m ((c.tc : Thread nD τ).loc main_arg1) : Vec Ideal S64x300x4 .f32) (ix3 b (s b t) 0)) ((m ((c.tc : Thread nD τ).loc main_arg1) : Vec Ideal S64x300x4 .f32) (ix3 b (s b t) 1))
        ((m ((c.tc : Thread nD τ).loc main_arg1) : Vec Ideal S64x300x4 .f32) (ix3 b (s b t) 2)) ((m ((c.tc : Thread nD τ).loc main_arg1) : Vec Ideal S64x300x4 .f32) (ix3 b (s b t) 3))
        ((m ((c.tc : Thread nD τ).loc main_arg2) : Vec Ideal S64x20x4 .f32) (ix3 b t 0)) ((m ((c.tc : Thread nD τ).loc main_arg2) : Vec Ideal S64x20x4 .f32) (ix3 b t 1))
        ((m ((c.tc : Thread nD τ).loc main_arg2) : Vec Ideal S64x20x4 .f32) (ix3 b t 2)) ((m ((c.tc : Thread nD τ).loc main_arg2) : Vec Ideal S64x20x4 .f32) (ix3 b t 3)))
      * ((1 / 1280 : ℝ) : EReal) := by
  refine (giCell_at (iblk m c 1 (ptOf 0)) (iblk m c 3 (ptOf 0)) (iblk m c 4 (ptOf 0)) s
    (fun b t => (slots_at m c (ptOf 0) b t).trans (hs b t))).trans ?_
  simp only [pred_at, tgt_at]

end Values

end Cert.KernelIdeal.Hand
end
-- ==== Proof.RCls.lean ====
module

public import proofs.«01_k».proof.Proof.Gen.ReferenceIdeal.Read
public import proofs.«01_k».proof.Proof.Math
public import Idealize.ShloMosaic.Lib.Pointwise
public import Idealize.ShloMosaic.Lib.Routing.OpsPair
public import Idealize.ShloMosaic.Lib.Routing.OpsSet
public import Idealize.ShloMosaic.Lib.LaneScatter.Pure

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand (IsCls)

open Idealize.ShloMosaic.Routing

/-! ## The class of every query -/

/-- A word below `2 ^ 31` is not below zero: the wrap of a negative index leaves it. -/
theorem wrap_small (n a : ℕ) (h : n < 2147483648) :
    Scalar.select (IntOp.cmpi .slt (BitVec.ofNat 32 n) 0#32) (BitVec.ofNat 32 a) (BitVec.ofNat 32 n) = BitVec.ofNat 32 n :=
  wrap_of_lt _ _ (by rw [BitVec.toNat_ofNat, Nat.mod_eq_of_lt (by omega)]; omega)

/-- A word below `2 ^ 31`, read signed, is its value. -/
theorem toInt_word (n : ℕ) (h : n < 2147483648) : (BitVec.ofNat 32 n).toInt = n := by
  rw [BitVec.toInt_eq_toNat_cond, BitVec.toNat_ofNat, Nat.mod_eq_of_lt (by omega), if_pos (by omega)]

variable (x3 x4 : (⟨S64x20, .i32⟩ : BufTy).Contents (Elt Ideal)) (s : Fin 64 → Fin 20 → Fin 300) (l : Fin 64 → Fin 20 → Fin 91)

/-- The first index word of the scatter at `(b, t)` is the image `b`. -/
theorem v16_at0 (b : Fin 64) (t : Fin 20) : val_main_v16 (F := Ideal) x3 (ix3 b t 0) = BitVec.ofNat 32 b.val := by
  refine Eq.trans (b := Scalar.select (IntOp.cmpi .slt (BitVec.ofNat 32 b.val) 0#32) (IntOp.addi (BitVec.ofNat 32 b.val) 64#32)
    (BitVec.ofNat 32 b.val)) ?_ ?_
  · pointwise [val_main_v16, val_main_v14, val_main_v13, val_main_v7, val_main_v4, val_main_v1, val_main_v0, val_main_v3, val_main_c_0,
      val_main_v6, val_main_v5, val_main_c_1]
  · exact wrap_of_lt _ _ (by rw [BitVec.toNat_ofNat, Nat.mod_eq_of_lt (by omega)]; omega)

/-- The second index word of the scatter at `(b, t)` is the query matched to slot `t`. -/
theorem v16_at1 (b : Fin 64) (t : Fin 20) (hs : ∀ b t, x3 (ix2 b t) = BitVec.ofNat 32 (s b t).val) :
    val_main_v16 (F := Ideal) x3 (ix3 b t 1) = BitVec.ofNat 32 (s b t).val := by
  refine Eq.trans (b := Scalar.select (IntOp.cmpi .slt (x3 (ix2 b t)) 0#32) (IntOp.addi (x3 (ix2 b t)) 300#32) (x3 (ix2 b t))) ?_ ?_
  · pointwise [val_main_v16, val_main_v15, val_main_v12, val_main_v9, val_main_v8, val_main_c_2, val_main_v11, val_main_v10, val_main_c_3]
  · rw [hs]
    exact wrap_of_lt _ _ (by rw [BitVec.toNat_ofNat, Nat.mod_eq_of_lt (by omega)]; omega)

/-- The scatter's table before the updates holds 91. -/
theorem v2_at (b : Fin 64) (q : Fin 300) : val_main_v2 (F := Ideal) (ix2 b q) = 91#32 := by
  pointwise [val_main_v2, val_main_c]

/-- The scatter writes the classes: at every query, the label of the last slot matched to it. -/
theorem v17_at (hs : ∀ b t, x3 (ix2 b t) = BitVec.ofNat 32 (s b t).val) (hl : ∀ b t, x4 (ix2 b t) = BitVec.ofNat 32 (l b t).val)
    (b : Fin 64) (q : Fin 300) : ∃ v, IsCls s l b q v ∧ val_main_v17 (F := Ideal) x3 x4 (ix2 b q) = BitVec.ofNat 32 v := by
  have hland : ∀ (b' : Fin 64) (t : Fin 20), scatter_S64x300_S64x20x2_S64x20_n_01_01_2.resultIdx? (ix2 b' t) (val_main_v16 (F := Ideal) x3)
      = some (ix2 b q) ↔ b' = b ∧ s b' t = q := by
    intro b' t
    refine (scatter_lands2 scatter_S64x300_S64x20x2_S64x20_n_01_01_2 rfl rfl rfl (val_main_v16 (F := Ideal) x3) b' t b q).trans ?_
    have e0 := v16_at0 x3 b' t
    have e1 := v16_at1 x3 s b' t hs
    constructor
    · rintro ⟨h0, h1⟩
      have h0' : (BitVec.ofNat 32 b'.val).toInt = (b.val : ℤ) := (congrArg BitVec.toInt e0).symm.trans h0
      have h1' : (BitVec.ofNat 32 (s b' t).val).toInt = (q.val : ℤ) := (congrArg BitVec.toInt e1).symm.trans h1
      rw [toInt_word _ (by omega)] at h0' h1'
      exact ⟨Fin.ext (by omega), Fin.ext (by omega)⟩
    · rintro ⟨rfl, rfl⟩
      exact ⟨(congrArg BitVec.toInt e0).trans (toInt_word _ (by omega)), (congrArg BitVec.toInt e1).trans (toInt_word _ (by omega))⟩
  have hsym : ∀ n : Fin (S64x20 : Shape).numel, (S64x20 : Shape).rowMajor.symm n
      = ix2 (⟨n.val / 20, by have : n.val < 1280 := n.isLt; omega⟩ : Fin 64) (⟨n.val % 20, by omega⟩ : Fin 20) := fun n => symm22 n _ _
  let hit : ℕ → Prop := fun n => n / 20 = b.val ∧ s b ⟨n % 20, by omega⟩ = q
  let val : ℕ → BitVec 32 := fun n => BitVec.ofNat 32 (l b ⟨n % 20, by omega⟩).val
  have hdec : DecidablePred hit := fun n => inferInstanceAs (Decidable (_ ∧ _))
  have key : val_main_v17 (F := Ideal) x3 x4 (ix2 b q) = LaneScatter.lastHit hit val 91#32 1280 := by
    unfold val_main_v17
    refine (scatter_at _ _ _ _ _ _).trans ?_
    rw [← foldl_finRange_lastHit, v2_at]
    refine congrArg (fun f => (List.finRange 1280).foldl f 91#32) (funext fun a => funext fun n => ?_)
    have hn := hsym n
    have hi : scatter_S64x300_S64x20x2_S64x20_n_01_01_2.resultIdx? ((S64x20 : Shape).rowMajor.symm n) (val_main_v16 (F := Ideal) x3)
        = some (ix2 b q) ↔ hit n.val := by
      rw [hn]
      refine (hland _ _).trans ⟨?_, ?_⟩
      · rintro ⟨h0, h1⟩
        refine ⟨congrArg Fin.val h0, ?_⟩
        rw [← h0]; exact h1
      · rintro ⟨h0, h1⟩
        have h0' : (⟨n.val / 20, by have : n.val < 1280 := n.isLt; omega⟩ : Fin 64) = b := Fin.ext h0
        exact ⟨h0', by rw [h0']; exact h1⟩
    by_cases h : hit n.val
    · rw [if_pos (hi.2 h), if_pos h, hn]
      have h0' : (⟨n.val / 20, by have : n.val < 1280 := n.isLt; omega⟩ : Fin 64) = b := Fin.ext h.1
      rw [h0', hl]
    · rw [if_neg (fun h' => h (hi.1 h')), if_neg h]
  rcases LaneScatter.lastHit_cases hit val 91#32 1280 with ⟨k, hk, hh, hlast, hv⟩ | ⟨hnone, hv⟩
  · refine ⟨_, Or.inr ⟨⟨k % 20, by omega⟩, hh.2, fun t' ht' hq => ?_, rfl⟩, key.trans hv⟩
    have ht'' : k % 20 < t'.val := ht'
    have h1 : k / 20 = b.val := hh.1
    refine hlast (20 * b.val + t'.val) (by omega) (by omega) ⟨by omega, ?_⟩
    have : (⟨(20 * b.val + t'.val) % 20, by omega⟩ : Fin 20) = t' := Fin.ext (by show (20 * b.val + t'.val) % 20 = t'.val; omega)
    rw [this]; exact hq
  · refine ⟨91, Or.inl ⟨rfl, fun t ht => hnone (20 * b.val + t.val) (by omega) ⟨by omega, ?_⟩⟩, key.trans hv⟩
    have : (⟨(20 * b.val + t.val) % 20, by omega⟩ : Fin 20) = t := Fin.ext (by show (20 * b.val + t.val) % 20 = t.val; omega)
    rw [this]; exact ht

end Cert.ReferenceIdeal.Hand
-- ==== Proof.RFocal.lean ====
module

public import proofs.«01_k».proof.Proof.Gen.ReferenceIdeal.Read
public import proofs.«01_k».proof.Proof.Math
public import Idealize.ShloMosaic.Lib.Pointwise
public import proofs.«01_k».proof.Proof.RCls

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand (IsCls sp sg lossPos lossNeg)

open Cert.KernelIdeal.Hand (lit_two lit_quarter lit_three_quarters lit_300 lit_1280 one_add_coe one_sub_coe div_one_coe absf_coe coe_max coe_sum)

/-! ## The focal loss of one class of one query -/

variable (x0 : (⟨S64x300x91, .f32⟩ : BufTy).Contents (Elt Ideal)) (x3 x4 : (⟨S64x20, .i32⟩ : BufTy).Contents (Elt Ideal))

/-- The one-hot target: 1 at the query's class, 0 elsewhere. -/
theorem v19_at (b : Fin 64) (q : Fin 300) (k : Fin 91) (v : ℕ) (hv : v ≤ 91) (h : val_main_v17 (F := Ideal) x3 x4 (ix2 b q) = BitVec.ofNat 32 v) :
    val_main_v19 (F := Ideal) x3 x4 (ix3 b q k) = (((if k.val = v then 1 else 0 : ℝ)) : EReal) := by
  refine Eq.trans (b := FloatOps.uitofp (F := Ideal) FTy.f32 (IntOp.cmpi CmpIPredicate.eq (val_main_v17 (F := Ideal) x3 x4 (ix2 b q)) (BitVec.ofNat 32 k.val))) ?_ ?_
  · pointwise [val_main_v19, val_main_v18, val_main_call0_v4, val_main_call0_v3, val_main_call0_v2, val_main_call0_v1, val_main_call0_v0]
  · rw [h]
    have hk := k.isLt
    by_cases hkv : k.val = v
    · rw [if_pos hkv, ← hkv]
      have : IntOp.cmpi CmpIPredicate.eq (BitVec.ofNat 32 k.val) (BitVec.ofNat 32 k.val) = 1#1 := by
        show BitVec.ofBool (_ == _) = 1#1
        rw [beq_self_eq_true]; rfl
      rw [this]
      show (((1#1 : BitVec 1).toNat : ℝ) : EReal) = _
      simp
    · rw [if_neg hkv]
      have hne : (BitVec.ofNat 32 v) ≠ BitVec.ofNat 32 k.val := fun e => by
        have := congrArg BitVec.toNat e
        rw [BitVec.toNat_ofNat, BitVec.toNat_ofNat, Nat.mod_eq_of_lt (by omega), Nat.mod_eq_of_lt (by omega)] at this
        omega
      have : IntOp.cmpi CmpIPredicate.eq (BitVec.ofNat 32 v) (BitVec.ofNat 32 k.val) = 0#1 := by
        show BitVec.ofBool (_ == _) = 0#1
        rw [beq_eq_false_iff_ne.mpr hne]; rfl
      rw [this]
      show (((0#1 : BitVec 1).toNat : ℝ) : EReal) = _
      simp

/-- The probability is the logistic function of the logit. -/
theorem v25_at (b : Fin 64) (q : Fin 300) (k : Fin 91) (x : ℝ) (hx : x0 (ix3 b q k) = (x : EReal)) :
    val_main_v25 (F := Ideal) x0 (ix3 b q k) = ((sg x : ℝ) : EReal) := by
  refine Eq.trans (b := Ideal.div 1 (1 + Ideal.exp (-x0 (ix3 b q k)))) ?_ ?_
  · pointwise [val_main_v25, val_main_v24, val_main_cst_4, val_main_v23, val_main_v22, val_main_cst, val_main_v21, val_main_v20]
  · rw [hx, ← EReal.coe_neg, Ideal.exp_coe, one_add_coe, div_one_coe (by positivity)]; rfl

/-- The lower bound of the clip is zero. -/
theorem call1_v1_at (b : Fin 64) (q : Fin 300) (k : Fin 91) : val_main_call1_v1 (F := Ideal) (ix3 b q k) = (0 : EReal) := by
  refine Eq.trans (b := val_main_cst_5 (F := Ideal) ix0) ?_ ?_
  · unfold val_main_call1_v1 val_main_call1_v0
    show (broadcastInDim S64x300x91 ![] bcast_S_S64x300x91 (val_main_cst_5 (F := Ideal)) : (⟨S64x300x91, .f32⟩ : BufTy).Contents (Elt Ideal)) (ix3 b q k) = _
    pointwise []
  · pointwise [val_main_cst_5]

/-- The cross entropy of a logit against its target. -/
theorem v33_at (b : Fin 64) (q : Fin 300) (k : Fin 91) (x τ : ℝ) (hx : x0 (ix3 b q k) = (x : EReal))
    (ht : val_main_v19 (F := Ideal) x3 x4 (ix3 b q k) = (τ : EReal)) :
    val_main_v33 (F := Ideal) x0 x3 x4 (ix3 b q k) = ((sp x - x * τ : ℝ) : EReal) := by
  refine Eq.trans (b := max (val_main_call1_v1 (F := Ideal) (ix3 b q k)) (x0 (ix3 b q k)) - x0 (ix3 b q k) * val_main_v19 (F := Ideal) x3 x4 (ix3 b q k)
      + Ideal.log1p (Ideal.exp (-(FloatOps.absf (F := Ideal) (φ := .f32) (x0 (ix3 b q k)) : EReal)))) ?_ ?_
  · pointwise [val_main_v33, val_main_v32, val_main_v31, val_main_v30, val_main_v29, val_main_v28, val_main_v27, val_main_v26]
  · rw [call1_v1_at, hx, ht, absf_coe, ← EReal.coe_neg, Ideal.exp_coe]
    have hl : Ideal.log1p ((Real.exp (-|x|) : ℝ) : EReal) = ((Real.log (1 + Real.exp (-|x|)) : ℝ) : EReal) := by
      show Ideal.log (1 + ((Real.exp (-|x|) : ℝ) : EReal)) = _
      rw [one_add_coe, Ideal.log_coe, if_neg (by have := Real.exp_pos (-|x|); linarith)]
    rw [hl, ← EReal.coe_zero, ← coe_max, ← EReal.coe_mul, ← EReal.coe_sub, ← EReal.coe_add]
    congr 1
    unfold sp
    rw [max_comm]; ring

/-- The focusing factor: the squared complement of the target's probability. -/
theorem v44_at (b : Fin 64) (q : Fin 300) (k : Fin 91) (x τ : ℝ) (hx : x0 (ix3 b q k) = (x : EReal))
    (ht : val_main_v19 (F := Ideal) x3 x4 (ix3 b q k) = (τ : EReal)) :
    val_main_v44 (F := Ideal) x0 x3 x4 (ix3 b q k) = (((1 - (sg x * τ + (1 - sg x) * (1 - τ))) ^ 2 : ℝ) : EReal) := by
  refine Eq.trans (b := Ideal.pow (1 - (val_main_v25 (F := Ideal) x0 (ix3 b q k) * val_main_v19 (F := Ideal) x3 x4 (ix3 b q k) +
      (1 - val_main_v25 (F := Ideal) x0 (ix3 b q k)) * (1 - val_main_v19 (F := Ideal) x3 x4 (ix3 b q k)))) (Ideal.ofBits FTy.f32 0x40000000#32)) ?_ ?_
  · pointwise [val_main_v44, val_main_v43, val_main_cst_9, val_main_v42, val_main_v41, val_main_cst_8, val_main_v40, val_main_v39, val_main_v38,
      val_main_v37, val_main_cst_7, val_main_v36, val_main_v35, val_main_cst_6, val_main_v34]
  · rw [v25_at x0 b q k x hx, ht, lit_two, one_sub_coe, one_sub_coe, ← EReal.coe_mul, ← EReal.coe_mul, ← EReal.coe_add, one_sub_coe, Ideal.pow_coe_coe]
    congr 1
    exact Real.rpow_two _

/-- The class weight. -/
theorem v52_at (b : Fin 64) (q : Fin 300) (k : Fin 91) (τ : ℝ) (ht : val_main_v19 (F := Ideal) x3 x4 (ix3 b q k) = (τ : EReal)) :
    val_main_v52 (F := Ideal) x3 x4 (ix3 b q k) = ((1 / 4 * τ + 3 / 4 * (1 - τ) : ℝ) : EReal) := by
  refine Eq.trans (b := Ideal.ofBits FTy.f32 0x3E800000#32 * val_main_v19 (F := Ideal) x3 x4 (ix3 b q k) +
      Ideal.ofBits FTy.f32 0x3F400000#32 * (1 - val_main_v19 (F := Ideal) x3 x4 (ix3 b q k))) ?_ ?_
  · pointwise [val_main_v52, val_main_v51, val_main_v50, val_main_cst_12, val_main_v49, val_main_v48, val_main_cst_11, val_main_v47, val_main_v46, val_main_cst_10]
  · rw [ht, lit_quarter, lit_three_quarters, one_sub_coe, ← EReal.coe_mul, ← EReal.coe_mul, ← EReal.coe_add]

/-- The focal loss of one class of one query. -/
theorem v53_at (b : Fin 64) (q : Fin 300) (k : Fin 91) (x : ℝ) (hx : x0 (ix3 b q k) = (x : EReal)) (v : ℕ) (hv : v ≤ 91)
    (h : val_main_v17 (F := Ideal) x3 x4 (ix2 b q) = BitVec.ofNat 32 v) :
    val_main_v53 (F := Ideal) x0 x3 x4 (ix3 b q k) = ((if k.val = v then lossPos x else lossNeg x : ℝ) : EReal) := by
  have ht := v19_at x3 x4 b q k v hv h
  refine Eq.trans (b := val_main_v52 (F := Ideal) x3 x4 (ix3 b q k) * (val_main_v33 (F := Ideal) x0 x3 x4 (ix3 b q k) * val_main_v44 (F := Ideal) x0 x3 x4 (ix3 b q k))) ?_ ?_
  · pointwise [val_main_v53, val_main_v45]
  · rw [v52_at x3 x4 b q k _ ht, v33_at x0 x3 x4 b q k x _ hx ht, v44_at x0 x3 x4 b q k x _ hx ht, ← EReal.coe_mul, ← EReal.coe_mul]
    congr 1
    split_ifs with hk
    · unfold lossPos; ring
    · unfold lossNeg; ring

/-! ## The first result -/

/-- The reference's first result: the mean over queries of the focal losses, summed over images and classes, per box, times the query count. -/
theorem v59_val (xr : Fin 64 → Fin 300 → Fin 91 → ℝ) (v : Fin 64 → Fin 300 → ℕ) (hx : ∀ b q k, x0 (ix3 b q k) = ((xr b q k : ℝ) : EReal))
    (hv : ∀ b q, v b q ≤ 91) (h : ∀ b q, val_main_v17 (F := Ideal) x3 x4 (ix2 b q) = BitVec.ofNat 32 (v b q)) :
    val_main_v59 (F := Ideal) x0 x3 x4 ix0
      = (((∑ b, ∑ k : Fin 91, (∑ q, (if k.val = v b q then lossPos (xr b q k) else lossNeg (xr b q k))) * (1 / 300)) * (1 / 1280) * 300 : ℝ) : EReal) := by
  refine Eq.trans (b := Ideal.div (∑ b : Fin 64, ∑ k : Fin 91, Ideal.div (∑ q : Fin 300, val_main_v53 (F := Ideal) x0 x3 x4 (ix3 b q k))
    (Ideal.ofBits FTy.f32 0x43960000#32)) (Ideal.ofBits FTy.f32 0x44A00000#32) * Ideal.ofBits FTy.f32 0x43960000#32) ?_ ?_
  · pointwise [val_main_v59, val_main_v58, val_main_v57, val_main_v56, val_main_v55, val_main_v54, val_main_cst_13, val_main_cst_14, val_main_cst_15,
      val_main_cst_16, val_main_cst_17]
  · rw [lit_300, lit_1280, Ideal.div_coe (by norm_num), EReal.coe_mul, EReal.coe_mul, coe_sum]
    refine congrArg (fun z : EReal => z * _ * _) (Finset.sum_congr rfl fun b _ => ?_)
    rw [coe_sum]
    refine Finset.sum_congr rfl fun k _ => ?_
    rw [Ideal.div_coe (by norm_num), EReal.coe_mul, coe_sum]
    exact congrArg (fun z : EReal => z * _) (Finset.sum_congr rfl fun q _ => v53_at x0 x3 x4 b q k _ (hx b q k) _ (hv b q) (h b q))

end Cert.ReferenceIdeal.Hand
-- ==== Proof.RTake.lean ====
module

public import proofs.«01_k».proof.Proof.Gen.ReferenceIdeal.Read
public import proofs.«01_k».proof.Proof.Math
public import Idealize.ShloMosaic.Lib.Pointwise
public import Idealize.ShloMosaic.Lib.Routing.OpsPair

@[expose] public section

set_option maxRecDepth 16384

noncomputable section

namespace Cert.ReferenceIdeal.Hand

open Cert.ReferenceIdeal Cert.ReferenceIdeal.Gen Cert.ReferenceIdeal.Read
open Idealize.ShloMosaic
open Cert.KernelIdeal.Hand (IsCls)

open Idealize.ShloMosaic.Routing

/-- The batched take: where the start word is `q`, the row of query `q` of the same image. -/
theorem take_at (x : (⟨S64x300x4, .f32⟩ : BufTy).Contents (Elt Ideal)) (idx : (⟨S64x20x1, .i32⟩ : BufTy).Contents (Elt Ideal))
    (b : Fin 64) (t : Fin 20) (k : Fin 4) (q : Fin 300) (h : idx (ix3 b t 0) = BitVec.ofNat 32 q.val) :
    Host.gather gather_S64x300x4_S64x20x1_S64x20x4_2_1_0_0_1_2_114 x idx (ix3 b t k) = x (ix3 b q k) := by
  refine congrArg x (funext fun a => Fin.ext ?_)
  have hsi : gather_S64x300x4_S64x20x1_S64x20x4_2_1_0_0_1_2_114.siIdx (ix3 b t k) ⟨0, by decide⟩ = ix3 b t 0 := by
    funext a'
    fin_cases a' <;> rfl
  fin_cases a
  · show 0 + b.val + 0 = b.val
    omega
  · show min (idx (gather_S64x300x4_S64x20x1_S64x20x4_2_1_0_0_1_2_114.siIdx (ix3 b t k) ⟨0, by decide⟩)).toInt.toNat 299 + 0 + 0 = q.val
    rw [hsi, h]
    have : (BitVec.ofNat 32 q.val).toInt = q.val := by
      rw [BitVec.toInt_eq_toNat_cond, BitVec.toNat_ofNat, Nat.mod_eq_of_lt (by omega), if_pos (by omega)]
    rw [this]; simp; omega
  · show 0 + 0 + k.val = k.val
    omega

/-- The take along the diagonal: where both start words are `r`, the entry `(r, r)`. -/
theorem diag_at (x : (⟨S1280x1280, .f32⟩ : BufTy).Contents (Elt Ideal)) (idx : (⟨S1280x2, .i32⟩ : BufTy).Contents (Elt Ideal))
    (r : Fin 1280) (h0 : idx (ix2 r 0) = BitVec.ofNat 32 r.val) (h1 : idx (ix2 r 1) = BitVec.ofNat 32 r.val) :
    Host.gather gather_S1280x1280_S1280x2_S1280_n_01_n_n_01_1_11 x idx (ix1 r) = x (ix2 r r) := by
  refine congrArg x (funext fun a => Fin.ext ?_)
  have hsi0 : gather_S1280x1280_S1280x2_S1280_n_01_n_n_01_1_11.siIdx (ix1 r) ⟨0, by decide⟩ = ix2 r 0 := by
    funext a'
    fin_cases a' <;> rfl
  have hsi1 : gather_S1280x1280_S1280x2_S1280_n_01_n_n_01_1_11.siIdx (ix1 r) ⟨1, by decide⟩ = ix2 r 1 := by
    funext a'
    fin_cases a' <;> rfl
  have hr : (BitVec.ofNat 32 r.val).toInt = r.val := by
    rw [BitVec.toInt_eq_toNat_cond, BitVec.toNat_ofNat, Nat.mod_eq_of_lt (by omega), if_pos (by omega)]
  fin_cases a
  · show min (idx (gather_S1280x1280_S1280x2_S1280_n_01_n_n_01_1_11.siIdx (ix1 r) ⟨0, by decide⟩)).toInt.toNat 1279 + 0 + 0 = r.val
    rw [hsi0, h0, hr]; simp; omega
  · show min (idx (gather_S1280x1280_S1280x2_S1280_n_01_n_n_01_1_11.siIdx (ix1 r) ⟨1, by decide⟩)).toInt.toNat 1279 + 0 + 0 = r.val
    rw [hsi1, h1, hr]; simp; omega

end Cert.ReferenceIdeal.Hand
-- ==== Proof.RBox.lean ====
module

public import proofs.«01_k».proof.Proof.Gen.ReferenceIdeal.Read
public import proofs.«01_k».proof.Proof.RCls
public import proofs.«01_k».proof.Proof.RTake
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic

/-! ## The matched boxes -/

variable (x1 : (⟨S64x300x4, .f32⟩ : BufTy).Contents (Elt Ideal)) (x2 : (⟨S64x20x4, .f32⟩ : BufTy).Contents (Elt Ideal))
  (x3 : (⟨S64x20, .i32⟩ : BufTy).Contents (Elt Ideal)) (s : Fin 64 → Fin 20 → Fin 300)

/-- The image of a flat pair. -/
def imgOf (i : Fin 1280) : Fin 64 := ⟨i.val / 20, by omega⟩

/-- The slot of a flat pair. -/
def slotOf (i : Fin 1280) : Fin 20 := ⟨i.val % 20, by omega⟩

/-- The start word of the take is the matched query. -/
theorem call2_v4_at (hs : ∀ b t, x3 (ix2 b t) = BitVec.ofNat 32 (s b t).val) (b : Fin 64) (t : Fin 20) :
    val_main_call2_v4 (F := Ideal) x3 (ix3 b t 0) = BitVec.ofNat 32 (s b t).val := by
  refine Eq.trans (b := Scalar.select (IntOp.cmpi .slt (x3 (ix2 b t)) 0#32) (IntOp.addi (x3 (ix2 b t)) 300#32) (x3 (ix2 b t))) ?_ ?_
  · pointwise [val_main_call2_v4, val_main_call2_v1, val_main_call2_v3, val_main_call2_v0, val_main_call2_c, val_main_v60, val_main_call2_v2, val_main_call2_c_0]
  · rw [hs]
    exact Routing.wrap_of_lt _ _ (by rw [BitVec.toNat_ofNat, Nat.mod_eq_of_lt (by omega)]; omega)

/-- The taken row is in range, so the take gives the matched query's box. -/
theorem v61_at (hs : ∀ b t, x3 (ix2 b t) = BitVec.ofNat 32 (s b t).val) (b : Fin 64) (t : Fin 20) (k : Fin 4) :
    val_main_v61 (F := Ideal) x1 x3 (ix3 b t k) = x1 (ix3 b (s b t) k) := by
  refine Eq.trans (b := Scalar.select (Finset.fold IntOp.andi 1#1 (fun x : Fin 1 => IntOp.andi
      (IntOp.cmpi .sge (val_main_call2_v4 (F := Ideal) x3 (ix3 b t x)) 0#32) (IntOp.cmpi .sle (val_main_call2_v4 (F := Ideal) x3 (ix3 b t x)) 299#32)) Finset.univ)
      (val_main_call2_v12 (F := Ideal) x1 x3 (ix3 b t k)) (Ideal.ofBits .f32 2143289344#32)) ?_ ?_
  · pointwise [val_main_v61, val_main_call2_v13, val_main_call2_v11, val_main_call2_v10, val_main_call2_c_3, val_main_call2_v9, val_main_call2_v8,
      val_main_call2_v7, val_main_call2_c_1, val_main_call2_v6, val_main_call2_v5, val_main_call2_c_2, val_main_call2_v14, val_main_call2_cst]
  · have h := call2_v4_at x3 s hs b t
    have hq := (s b t).isLt
    have hge : IntOp.cmpi .sge (BitVec.ofNat 32 (s b t).val) 0#32 = 1#1 := by
      show BitVec.ofBool (BitVec.sle _ _) = 1#1
      rw [BitVec.sle_iff_toInt_le.mpr (by rw [toInt_word (s b t).val (by omega)]; have e : (0#32 : BitVec 32).toInt = 0 := rfl; omega)]; rfl
    have hle : IntOp.cmpi .sle (BitVec.ofNat 32 (s b t).val) 299#32 = 1#1 := by
      show BitVec.ofBool (BitVec.sle _ _) = 1#1
      rw [BitVec.sle_iff_toInt_le.mpr (by rw [toInt_word (s b t).val (by omega)]; have e : (299#32 : BitVec 32).toInt = 299 := rfl; omega)]; rfl
    have hf : (Finset.fold IntOp.andi 1#1 (fun x : Fin 1 => IntOp.andi
      (IntOp.cmpi .sge (val_main_call2_v4 (F := Ideal) x3 (ix3 b t x)) 0#32) (IntOp.cmpi .sle (val_main_call2_v4 (F := Ideal) x3 (ix3 b t x)) 299#32)) Finset.univ) = 1#1 := by
      rw [show (Finset.univ : Finset (Fin 1)) = {0} from rfl, Finset.fold_singleton, h, hge, hle]; rfl
    rw [hf]
    refine Eq.trans (b := val_main_call2_v12 (F := Ideal) x1 x3 (ix3 b t k)) rfl ?_
    unfold val_main_call2_v12
    exact take_at x1 _ b t k (s b t) h

/-- The matched boxes, flat. -/
theorem v62_at (hs : ∀ b t, x3 (ix2 b t) = BitVec.ofNat 32 (s b t).val) (i : Fin 1280) (k : Fin 4) :
    val_main_v62 (F := Ideal) x1 x3 (ix2 i k) = x1 (ix3 (imgOf i) (s (imgOf i) (slotOf i)) k) := by
  refine Eq.trans (b := val_main_v61 (F := Ideal) x1 x3 (ix3 (imgOf i) (slotOf i) k)) ?_ (v61_at x1 x3 s hs _ _ _)
  pointwise [val_main_v62, imgOf, slotOf]

/-- The target boxes, flat. -/
theorem v63_at (i : Fin 1280) (k : Fin 4) : val_main_v63 (F := Ideal) x2 (ix2 i k) = x2 (ix3 (imgOf i) (slotOf i) k) := by
  pointwise [val_main_v63, imgOf, slotOf]

/-- The second result over the flat boxes. -/
theorem v67_val : val_main_v67 (F := Ideal) x1 x2 x3 ix0
    = Ideal.div (∑ i : Fin 1280, ∑ k : Fin 4, (FloatOps.absf (F := Ideal) (φ := .f32) (val_main_v62 (F := Ideal) x1 x3 (ix2 i k) - val_main_v63 (F := Ideal) x2 (ix2 i k)) : EReal))
        (Ideal.ofBits FTy.f32 0x44A00000#32) := by
  pointwise [val_main_v67, val_main_v66, val_main_cst_19, val_main_cst_18, val_main_v65, val_main_v64]

/-! ## The corners -/

/-- The source corners, from the flat boxes. -/
theorem v92_at (i : Fin 1280) : let h : EReal := Ideal.ofBits FTy.f32 0x3F000000#32
    let p := fun k : Fin 4 => (val_main_v62 (F := Ideal) x1 x3 (ix2 i k) : EReal)
    val_main_v92 (F := Ideal) x1 x3 (ix2 i 0) = p 0 - h * p 2 ∧ val_main_v92 (F := Ideal) x1 x3 (ix2 i 1) = p 1 - h * p 3 ∧
    val_main_v92 (F := Ideal) x1 x3 (ix2 i 2) = p 0 + h * p 2 ∧ val_main_v92 (F := Ideal) x1 x3 (ix2 i 3) = p 1 + h * p 3 := by
  refine ⟨?_, ?_, ?_, ?_⟩ <;>
  pointwise [val_main_v92, val_main_v91, val_main_v90, val_main_v89, val_main_v88, val_main_v87, val_main_v86, val_main_v85, val_main_cst_23, val_main_v84,
    val_main_v83, val_main_v82, val_main_cst_22, val_main_v81, val_main_v80, val_main_v79, val_main_cst_21, val_main_v78, val_main_v77, val_main_v76,
    val_main_cst_20, val_main_v75, val_main_v74, val_main_v73, val_main_v72, val_main_v71, val_main_v70, val_main_v69, val_main_v68]

/-- The target corners, from the flat boxes. -/
theorem v117_at (i : Fin 1280) : let h : EReal := Ideal.ofBits FTy.f32 0x3F000000#32
    let d := fun k : Fin 4 => (val_main_v63 (F := Ideal) x2 (ix2 i k) : EReal)
    val_main_v117 (F := Ideal) x2 (ix2 i 0) = d 0 - h * d 2 ∧ val_main_v117 (F := Ideal) x2 (ix2 i 1) = d 1 - h * d 3 ∧
    val_main_v117 (F := Ideal) x2 (ix2 i 2) = d 0 + h * d 2 ∧ val_main_v117 (F := Ideal) x2 (ix2 i 3) = d 1 + h * d 3 := by
  refine ⟨?_, ?_, ?_, ?_⟩ <;>
  pointwise [val_main_v117, val_main_v116, val_main_v115, val_main_v114, val_main_v113, val_main_v112, val_main_v111, val_main_v110, val_main_cst_27, val_main_v109,
    val_main_v108, val_main_v107, val_main_cst_26, val_main_v106, val_main_v105, val_main_v104, val_main_cst_25, val_main_v103, val_main_v102, val_main_v101,
    val_main_cst_24, val_main_v100, val_main_v99, val_main_v98, val_main_v97, val_main_v96, val_main_v95, val_main_v94, val_main_v93]

/-! ## The overlap of a pair -/

/-- The lower bound of the intersection's clip is zero. -/
theorem call3_v1_at (i j : Fin 1280) (k : Fin 2) : val_main_call3_v1 (F := Ideal) (ix3 i j k) = (0 : EReal) := by
  refine Eq.trans (b := val_main_cst_28 (F := Ideal) ix0) ?_ ?_
  · unfold val_main_call3_v1 val_main_call3_v0
    show (broadcastInDim S1280x1280x2 ![] bcast_S_S1280x1280x2 (val_main_cst_28 (F := Ideal)) : (⟨S1280x1280x2, .f32⟩ : BufTy).Contents (Elt Ideal)) (ix3 i j k) = _
    pointwise []
  · pointwise [val_main_cst_28]

/-- The lower bound of the hull's clip is zero. -/
theorem call4_v1_at (i j : Fin 1280) (k : Fin 2) : val_main_call4_v1 (F := Ideal) (ix3 i j k) = (0 : EReal) := by
  refine Eq.trans (b := val_main_cst_29 (F := Ideal) ix0) ?_ ?_
  · unfold val_main_call4_v1 val_main_call4_v0
    show (broadcastInDim S1280x1280x2 ![] bcast_S_S1280x1280x2 (val_main_cst_29 (F := Ideal)) : (⟨S1280x1280x2, .f32⟩ : BufTy).Contents (Elt Ideal)) (ix3 i j k) = _
    pointwise []
  · pointwise [val_main_cst_29]

/-- The generalised overlap of a source and a target box from their corners. -/
def giouOf (a0 a1 a2 a3 c0 c1 c2 c3 : EReal) : EReal :=
  let inter := max 0 (min a2 c2 - max a0 c0) * max 0 (min a3 c3 - max a1 c1)
  let union := (a2 - a0) * (a3 - a1) + (c2 - c0) * (c3 - c1) - inter
  let hull := max 0 (max a2 c2 - min a0 c0) * max 0 (max a3 c3 - min a1 c1)
  Ideal.div inter union - Ideal.div (hull - union) hull

/-- The intersection of source `i` and target `j`. -/
theorem v160_at (i j : Fin 1280) : val_main_v160 (F := Ideal) x1 x2 x3 (ix2 i j)
    = max (val_main_call3_v1 (F := Ideal) (ix3 i j 0)) (min (val_main_v92 (F := Ideal) x1 x3 (ix2 i 2)) (val_main_v117 (F := Ideal) x2 (ix2 j 2)) - max (val_main_v92 (F := Ideal) x1 x3 (ix2 i 0)) (val_main_v117 (F := Ideal) x2 (ix2 j 0)) : EReal)
      * max (val_main_call3_v1 (F := Ideal) (ix3 i j 1)) (min (val_main_v92 (F := Ideal) x1 x3 (ix2 i 3)) (val_main_v117 (F := Ideal) x2 (ix2 j 3)) - max (val_main_v92 (F := Ideal) x1 x3 (ix2 i 1)) (val_main_v117 (F := Ideal) x2 (ix2 j 1)) : EReal) := by
  pointwise [val_main_v160, val_main_v159, val_main_v158, val_main_v157, val_main_v156, val_main_v155, val_main_v154, val_main_v153, val_main_v152,
    val_main_v151, val_main_v150, val_main_v149, val_main_v148, val_main_v147, val_main_v146, val_main_v145, val_main_v144, val_main_v143, val_main_v142,
    val_main_v141, val_main_v140]

/-- The hull of source `i` and target `j`. -/
theorem v188_at (i j : Fin 1280) : val_main_v188 (F := Ideal) x1 x2 x3 (ix2 i j)
    = max (val_main_call4_v1 (F := Ideal) (ix3 i j 0)) (max (val_main_v92 (F := Ideal) x1 x3 (ix2 i 2)) (val_main_v117 (F := Ideal) x2 (ix2 j 2)) - min (val_main_v92 (F := Ideal) x1 x3 (ix2 i 0)) (val_main_v117 (F := Ideal) x2 (ix2 j 0)) : EReal)
      * max (val_main_call4_v1 (F := Ideal) (ix3 i j 1)) (max (val_main_v92 (F := Ideal) x1 x3 (ix2 i 3)) (val_main_v117 (F := Ideal) x2 (ix2 j 3)) - min (val_main_v92 (F := Ideal) x1 x3 (ix2 i 1)) (val_main_v117 (F := Ideal) x2 (ix2 j 1)) : EReal) := by
  pointwise [val_main_v188, val_main_v187, val_main_v186, val_main_v185, val_main_v184, val_main_v183, val_main_v182, val_main_v181, val_main_v180, val_main_v179,
    val_main_v178, val_main_v177, val_main_v176, val_main_v175, val_main_v174, val_main_v173, val_main_v172, val_main_v171, val_main_v170, val_main_v169,
    val_main_v168]

/-- The union of source `i` and target `j`. -/
theorem v166_at (i j : Fin 1280) : val_main_v166 (F := Ideal) x1 x2 x3 (ix2 i j)
    = ((val_main_v92 (F := Ideal) x1 x3 (ix2 i 2) - val_main_v92 (F := Ideal) x1 x3 (ix2 i 0)) * (val_main_v92 (F := Ideal) x1 x3 (ix2 i 3) - val_main_v92 (F := Ideal) x1 x3 (ix2 i 1))
      + (val_main_v117 (F := Ideal) x2 (ix2 j 2) - val_main_v117 (F := Ideal) x2 (ix2 j 0)) * (val_main_v117 (F := Ideal) x2 (ix2 j 3) - val_main_v117 (F := Ideal) x2 (ix2 j 1))
      - val_main_v160 (F := Ideal) x1 x2 x3 (ix2 i j) : EReal) := by
  pointwise [val_main_v166, val_main_v165, val_main_v164, val_main_v163, val_main_v162, val_main_v161, val_main_v139, val_main_v138, val_main_v137, val_main_v136,
    val_main_v135, val_main_v134, val_main_v133, val_main_v132, val_main_v131, val_main_v130, val_main_v129, val_main_v128, val_main_v127, val_main_v126,
    val_main_v125, val_main_v124, val_main_v123, val_main_v122, val_main_v121, val_main_v120, val_main_v119, val_main_v118]

/-- The generalised overlap of source `i` and target `j`. -/
theorem v191_at (i j : Fin 1280) : val_main_v191 (F := Ideal) x1 x2 x3 (ix2 i j)
    = giouOf (val_main_v92 (F := Ideal) x1 x3 (ix2 i 0)) (val_main_v92 (F := Ideal) x1 x3 (ix2 i 1)) (val_main_v92 (F := Ideal) x1 x3 (ix2 i 2)) (val_main_v92 (F := Ideal) x1 x3 (ix2 i 3))
        (val_main_v117 (F := Ideal) x2 (ix2 j 0)) (val_main_v117 (F := Ideal) x2 (ix2 j 1)) (val_main_v117 (F := Ideal) x2 (ix2 j 2)) (val_main_v117 (F := Ideal) x2 (ix2 j 3)) := by
  refine Eq.trans (b := Ideal.div (val_main_v160 (F := Ideal) x1 x2 x3 (ix2 i j)) (val_main_v166 (F := Ideal) x1 x2 x3 (ix2 i j))
    - Ideal.div (val_main_v188 (F := Ideal) x1 x2 x3 (ix2 i j) - val_main_v166 (F := Ideal) x1 x2 x3 (ix2 i j)) (val_main_v188 (F := Ideal) x1 x2 x3 (ix2 i j))) ?_ ?_
  · pointwise [val_main_v191, val_main_v190, val_main_v189, val_main_v167]
  · rw [v166_at, v160_at, v188_at, call3_v1_at, call3_v1_at, call4_v1_at, call4_v1_at]; rfl

/-! ## The third result -/

/-- Both start words of the take along the diagonal are the pair. -/
theorem v205_at (i : Fin 1280) : val_main_v205 (F := Ideal) (ix2 i 0) = BitVec.ofNat 32 i.val ∧ val_main_v205 (F := Ideal) (ix2 i 1) = BitVec.ofNat 32 i.val := by
  have hw : Scalar.select (IntOp.cmpi .slt (BitVec.ofNat 32 i.val) 0#32) (IntOp.addi (BitVec.ofNat 32 i.val) 1280#32) (BitVec.ofNat 32 i.val) = BitVec.ofNat 32 i.val :=
    Routing.wrap_of_lt _ _ (by rw [BitVec.toNat_ofNat, Nat.mod_eq_of_lt (by omega)]; omega)
  constructor
  · refine Eq.trans ?_ hw
    pointwise [val_main_v205, val_main_v203, val_main_v197, val_main_v196, val_main_v195, val_main_c_31, val_main_v194, val_main_v193, val_main_c_30, val_main_v192]
  · refine Eq.trans ?_ hw
    pointwise [val_main_v205, val_main_v204, val_main_v202, val_main_v201, val_main_v200, val_main_c_33, val_main_v199, val_main_v198, val_main_c_32, val_main_v192]

/-- The take along the diagonal gives each pair its own overlap. -/
theorem v206_at (i : Fin 1280) : val_main_v206 (F := Ideal) x1 x2 x3 (ix1 i) = val_main_v191 (F := Ideal) x1 x2 x3 (ix2 i i) := by
  unfold val_main_v206
  exact diag_at _ _ i (v205_at i).1 (v205_at i).2

/-- The third result: the pairs' complements of the overlap, averaged. -/
theorem v210_val : val_main_v210 (F := Ideal) x1 x2 x3 ix0
    = Ideal.div (∑ i : Fin 1280, (1 - val_main_v191 (F := Ideal) x1 x2 x3 (ix2 i i) : EReal)) (Ideal.ofBits FTy.f32 0x44A00000#32) := by
  refine Eq.trans (b := Ideal.div (∑ i : Fin 1280, (1 - val_main_v206 (F := Ideal) x1 x2 x3 (ix1 i) : EReal)) (Ideal.ofBits FTy.f32 0x44A00000#32)) ?_ ?_
  · pointwise [val_main_v210, val_main_v209, val_main_v208, val_main_v207, val_main_cst_34, val_main_cst_35, val_main_cst_36]
  · exact congrArg (fun z : EReal => Ideal.div z _) (Finset.sum_congr rfl fun i _ => by rw [v206_at])

end Cert.ReferenceIdeal.Hand
-- ==== Proof.Eqn.lean ====
module

public import proofs.«01_k».proof.Proof.KFin
public import proofs.«01_k».proof.Proof.RFocal
public import proofs.«01_k».proof.Proof.RBox

@[expose] public section

set_option maxRecDepth 16384

noncomputable section

namespace Cert.Eqn

open Idealize.ShloMosaic
open Cert.KernelIdeal.Hand (sp sg lossPos lossNeg corr imgLoss l1Pair giPair lit_half lit_1280 coe_max)
open Cert.ReferenceIdeal.Hand (imgOf slotOf giouOf)

/-! ## The focal losses -/

/-- A query's focal losses, class by class: all as non-targets, then the target's correction. -/
theorem sum_classes (f : Fin 91 → ℝ) (v : ℕ) :
    ∑ k : Fin 91, (if k.val = v then lossPos (f k) else lossNeg (f k)) = ∑ k, lossNeg (f k) + corr v f := by
  have e : ∀ k : Fin 91, (if k.val = v then lossPos (f k) else lossNeg (f k))
      = lossNeg (f k) + if k.val = v then lossPos (f k) - lossNeg (f k) else 0 := fun k => by
    split_ifs <;> ring
  rw [Finset.sum_congr rfl fun k _ => e k, Finset.sum_add_distrib]
  congr 1
  unfold corr
  split_ifs with h
  · rw [Finset.sum_eq_single (⟨v, h⟩ : Fin 91) (fun k _ hk => if_neg fun hkv => hk (Fin.ext hkv)) (fun hn => absurd (Finset.mem_univ _) hn)]
    exact if_pos rfl
  · exact Finset.sum_eq_zero fun k _ => if_neg fun hk : k.val = v => h (hk ▸ k.isLt)

/-- The reference's mean over queries times their count is the kernel's plain sum. -/
theorem focal_eq (xr : Fin 64 → Fin 300 → Fin 91 → ℝ) (v : Fin 64 → Fin 300 → ℕ) :
    (∑ b, ∑ k : Fin 91, (∑ q, (if k.val = v b q then lossPos (xr b q k) else lossNeg (xr b q k))) * (1 / 300)) * (1 / 1280) * 300
      = (∑ b, imgLoss xr v b) / 1280 := by
  have e : ∀ b, ∑ k : Fin 91, (∑ q, (if k.val = v b q then lossPos (xr b q k) else lossNeg (xr b q k))) * (1 / 300 : ℝ) = imgLoss xr v b * (1 / 300) := by
    intro b
    rw [← Finset.sum_mul, Finset.sum_comm]
    congr 1
    rw [Finset.sum_congr rfl fun q _ => sum_classes (fun k => xr b q k) (v b q), Finset.sum_add_distrib, Finset.sum_comm]
    rfl
  rw [Finset.sum_congr rfl fun b _ => e b, ← Finset.sum_mul]
  ring

/-! ## The pairs, flat and by image and slot -/

/-- A sum over the flat pairs is the sum over slots and images. -/
theorem sum_pairs (f : Fin 64 → Fin 20 → EReal) : ∑ i : Fin 1280, f (imgOf i) (slotOf i) = ∑ t : Fin 20, ∑ b : Fin 64, f b t := by
  rw [Finset.sum_comm, ← Fintype.sum_prod_type' f]
  refine Fintype.sum_equiv (finProdFinEquiv (m := 64) (n := 20)).symm _ _ fun i => ?_
  rfl

/-- Four absolute differences in a row are a pair's coordinate difference. -/
theorem l1_eq (p d : Fin 4 → EReal) : ∑ k : Fin 4, (FloatOps.absf (F := Ideal) (φ := .f32) (p k - d k) : EReal)
    = l1Pair (p 0) (p 1) (p 2) (p 3) (d 0) (d 1) (d 2) (d 3) := by
  rw [Fin.sum_univ_four]; rfl

/-! ## The overlap -/

/-- The hull of two intervals, the first of which has a real centre and is not reversed, has a length that is not negative. -/
theorem hull_nonneg (p : ℝ) (w : EReal) (hw : 0 ≤ w) (c0 c2 : EReal) :
    (0 : EReal) ≤ max ((p : EReal) + ((1 / 2 : ℝ) : EReal) * w) c2 - min ((p : EReal) - ((1 / 2 : ℝ) : EReal) * w) c0 := by
  refine le_trans ?_ (EReal.sub_le_sub (le_max_left _ c2) (min_le_left _ c0))
  induction w using EReal.rec with
  | bot => exact absurd hw (by simp)
  | top => rw [EReal.coe_mul_top_of_pos (by norm_num), EReal.coe_add_top, show (p : EReal) - ⊤ = ⊥ from rfl, EReal.top_sub_bot]; exact le_top
  | coe w =>
    have hw' : 0 ≤ w := EReal.coe_nonneg.mp hw
    rw [← EReal.coe_mul, ← EReal.coe_add, ← EReal.coe_sub, ← EReal.coe_sub]
    exact EReal.coe_nonneg.mpr (by linarith)

/-- The kernel's pair loss is the complement of the reference's generalised overlap. -/
theorem gi_eq (p0 p1 : ℝ) (p2 p3 : EReal) (h2 : 0 ≤ p2) (h3 : 0 ≤ p3) (d0 d1 d2 d3 : EReal) :
    giPair (p0 : EReal) (p1 : EReal) p2 p3 d0 d1 d2 d3
      = 1 - giouOf ((p0 : EReal) - Ideal.ofBits FTy.f32 0x3F000000#32 * p2) ((p1 : EReal) - Ideal.ofBits FTy.f32 0x3F000000#32 * p3)
          ((p0 : EReal) + Ideal.ofBits FTy.f32 0x3F000000#32 * p2) ((p1 : EReal) + Ideal.ofBits FTy.f32 0x3F000000#32 * p3)
          (d0 - Ideal.ofBits FTy.f32 0x3F000000#32 * d2) (d1 - Ideal.ofBits FTy.f32 0x3F000000#32 * d3)
          (d0 + Ideal.ofBits FTy.f32 0x3F000000#32 * d2) (d1 + Ideal.ofBits FTy.f32 0x3F000000#32 * d3) := by
  have hx := hull_nonneg p0 p2 h2 (d0 - Ideal.ofBits FTy.f32 0x3F000000#32 * d2) (d0 + Ideal.ofBits FTy.f32 0x3F000000#32 * d2)
  have hy := hull_nonneg p1 p3 h3 (d1 - Ideal.ofBits FTy.f32 0x3F000000#32 * d3) (d1 + Ideal.ofBits FTy.f32 0x3F000000#32 * d3)
  rw [← lit_half] at hx hy
  unfold giPair giouOf
  simp only []
  rw [max_eq_right hx, max_eq_right hy, max_comm (0 : EReal), max_comm (0 : EReal)]

/-- Division by the number of pairs. -/
theorem div_pairs (z : EReal) : Ideal.div z (Ideal.ofBits FTy.f32 0x44A00000#32) = z * ((1 / 1280 : ℝ) : EReal) := by
  rw [lit_1280, Ideal.div_coe (by norm_num)]

end Cert.Eqn
-- ==== Proof.Pre.lean ====
module

public import proofs.«01_k».proof.Defs
public import proofs.«01_k».proof.Proof.Gen.Pre_well_formed
public import Idealize.ShloMosaic.Lib.Pointwise

@[expose] public section

noncomputable section

namespace Cert.Pre_well_formed.Hand

open Idealize.ShloMosaic Cert.Pre_well_formed Cert.Pre_well_formed.Gen

/-! ## What the precondition says of the arguments -/

/-- An extended real of absolute value below infinity is a real. -/
theorem real_of_absf_lt (x : EReal) (h : BitVec.ofBool (decide ((FloatOps.absf (F := Ideal) (φ := .f32) x : EReal) < Ideal.ofBits FTy.f32 0x7F800000#32)) = 1#1) :
    ∃ r : ℝ, x = (r : EReal) := by
  have htop : Ideal.ofBits .f32 0x7F800000#32 = ⊤ := by simp [Ideal.ofBits, Ideal.ieee]
  rw [htop] at h
  have hlt : max x (-x) < ⊤ := by
    by_contra hn
    have e : decide ((FloatOps.absf (F := Ideal) (φ := .f32) x : EReal) < ⊤) = false := decide_eq_false hn
    rw [e] at h
    exact absurd h (by decide)
  induction x using EReal.rec with
  | bot => simp at hlt
  | top => simp at hlt
  | coe r => exact ⟨r, rfl⟩

/-- A word that reads signed from 0 on and below a small `n` is the word of a number below `n`. -/
theorem small_of_range (x : BitVec 32) (n : ℕ) (hn : n < 2147483648) (h0 : IntOp.cmpi CmpIPredicate.sge x 0#32 = 1#1)
    (h1 : IntOp.cmpi CmpIPredicate.slt x (BitVec.ofNat 32 n) = 1#1) : ∃ k : Fin n, x = BitVec.ofNat 32 k.val := by
  have hs : (0#32 : BitVec 32).sle x = true := by
    by_contra hc
    have : IntOp.cmpi CmpIPredicate.sge x 0#32 = BitVec.ofBool ((0#32 : BitVec 32).sle x) := rfl
    rw [this, Bool.not_eq_true _ |>.mp hc] at h0
    exact absurd h0 (by decide)
  have hl : x.slt (BitVec.ofNat 32 n) = true := by
    by_contra hc
    have : IntOp.cmpi CmpIPredicate.slt x (BitVec.ofNat 32 n) = BitVec.ofBool (x.slt (BitVec.ofNat 32 n)) := rfl
    rw [this, Bool.not_eq_true _ |>.mp hc] at h1
    exact absurd h1 (by decide)
  rw [BitVec.sle_iff_toInt_le] at hs
  rw [BitVec.slt_iff_toInt_lt] at hl
  have e0 : (0#32 : BitVec 32).toInt = 0 := rfl
  have en : (BitVec.ofNat 32 n).toInt = n := by
    rw [BitVec.toInt_eq_toNat_cond, BitVec.toNat_ofNat, Nat.mod_eq_of_lt (by omega), if_pos (by omega)]
  rw [e0] at hs
  rw [en] at hl
  have hx := BitVec.toInt_eq_toNat_cond x
  have hx' := x.isLt
  have hlt : x.toNat < n := by
    split_ifs at hx with hc <;> omega
  refine ⟨⟨x.toNat, hlt⟩, BitVec.eq_of_toNat_eq ?_⟩
  rw [BitVec.toNat_ofNat, Nat.mod_eq_of_lt x.isLt]

variable (a0 : FVec Ideal S64x300x91 .f32) (a1 : FVec Ideal S64x300x4 .f32) (a2 : FVec Ideal S64x20x4 .f32) (a3 a4 : IVec S64x20 32)

/-- The logits are reals. -/
theorem logits_real (h : (fn (F := Ideal) a0 a1 a2 a3 a4).1 = fun _ => 1#1) (b : Fin 64) (q : Fin 300) (k : Fin 91) :
    ∃ r : ℝ, a0 (ix3 b q k) = (r : EReal) := by
  refine real_of_absf_lt _ (Eq.trans (b := (fn (F := Ideal) a0 a1 a2 a3 a4).1 (ix3 b q k)) ?_ (congrFun h (ix3 b q k)))
  pointwise [fn, fn_part1]

/-- The predicted centres are reals. -/
theorem centres_real (h : (fn (F := Ideal) a0 a1 a2 a3 a4).2.1 = fun _ => 1#1) (b : Fin 64) (q : Fin 300) :
    (∃ r : ℝ, a1 (ix3 b q 0) = (r : EReal)) ∧ ∃ r : ℝ, a1 (ix3 b q 1) = (r : EReal) := by
  refine ⟨real_of_absf_lt _ (Eq.trans (b := (fn (F := Ideal) a0 a1 a2 a3 a4).2.1 (ix3 b q 0)) ?_ (congrFun h (ix3 b q 0))),
    real_of_absf_lt _ (Eq.trans (b := (fn (F := Ideal) a0 a1 a2 a3 a4).2.1 (ix3 b q 1)) ?_ (congrFun h (ix3 b q 1)))⟩
  · pointwise [fn, fn_part1]
  · pointwise [fn, fn_part1]

/-- The predicted widths and heights are not negative. -/
theorem sizes_nonneg (h : (fn (F := Ideal) a0 a1 a2 a3 a4).2.2.1 = fun _ => 1#1) (b : Fin 64) (q : Fin 300) :
    (0 : EReal) ≤ a1 (ix3 b q 2) ∧ (0 : EReal) ≤ a1 (ix3 b q 3) := by
  have key : ∀ x : EReal, BitVec.ofBool (decide ((0 : EReal) ≤ x)) = 1#1 → 0 ≤ x := fun x hx => by
    by_contra hn
    rw [decide_eq_false hn] at hx
    exact absurd hx (by decide)
  refine ⟨key _ (Eq.trans (b := (fn (F := Ideal) a0 a1 a2 a3 a4).2.2.1 (ix3 b q 0)) ?_ (congrFun h (ix3 b q 0))),
    key _ (Eq.trans (b := (fn (F := Ideal) a0 a1 a2 a3 a4).2.2.1 (ix3 b q 1)) ?_ (congrFun h (ix3 b q 1)))⟩
  · pointwise [fn, fn_part1]
  · pointwise [fn, fn_part1]

/-- The matched queries are in range. -/
theorem queries_small (h0 : (fn (F := Ideal) a0 a1 a2 a3 a4).2.2.2.1 = fun _ => 1#1) (h1 : (fn (F := Ideal) a0 a1 a2 a3 a4).2.2.2.2.1 = fun _ => 1#1)
    (b : Fin 64) (t : Fin 20) : ∃ q : Fin 300, a3 (ix2 b t) = BitVec.ofNat 32 q.val := by
  refine small_of_range _ 300 (by omega) (Eq.trans (b := (fn (F := Ideal) a0 a1 a2 a3 a4).2.2.2.1 (ix2 b t)) ?_ (congrFun h0 (ix2 b t)))
    (Eq.trans (b := (fn (F := Ideal) a0 a1 a2 a3 a4).2.2.2.2.1 (ix2 b t)) ?_ (congrFun h1 (ix2 b t)))
  · pointwise [fn, fn_part1]
  · pointwise [fn, fn_part1]

/-- The labels are in range. -/
theorem labels_small (h0 : (fn (F := Ideal) a0 a1 a2 a3 a4).2.2.2.2.2.1 = fun _ => 1#1) (h1 : (fn (F := Ideal) a0 a1 a2 a3 a4).2.2.2.2.2.2 = fun _ => 1#1)
    (b : Fin 64) (t : Fin 20) : ∃ k : Fin 91, a4 (ix2 b t) = BitVec.ofNat 32 k.val := by
  refine small_of_range _ 91 (by omega) (Eq.trans (b := (fn (F := Ideal) a0 a1 a2 a3 a4).2.2.2.2.2.1 (ix2 b t)) ?_ (congrFun h0 (ix2 b t)))
    (Eq.trans (b := (fn (F := Ideal) a0 a1 a2 a3 a4).2.2.2.2.2.2 (ix2 b t)) ?_ (congrFun h1 (ix2 b t)))
  · pointwise [fn, fn_part1]
  · pointwise [fn, fn_part1]

end Cert.Pre_well_formed.Hand
-- ==== Proof.Alg.lean ====
module

public import proofs.«01_k».proof.Defs
public import proofs.«01_k».proof.Proof.Eqn
public import proofs.«01_k».proof.Proof.Pre
public import proofs.«01_k».proof.Proof.Gen.ReferenceIdeal.Run

@[expose] public section

set_option maxRecDepth 16384

noncomputable section

namespace Cert.Alg

open Idealize.ShloMosaic Idealize.SL.Sem
open Cert.KernelIdeal.Hand (IsCls ceAt l1C giC l1Pair giPair ceAt_val l1C_val giC_val run_values)
open Cert.ReferenceIdeal.Hand Cert.ReferenceIdeal.Read
open Cert.Eqn Cert.Pre_well_formed.Hand

/-- The kernel's memory. -/
abbrev KMem := (ℓ : Loc Cert.KernelIdeal.nD Cert.KernelIdeal.τ Cert.KernelIdeal.sig) → Buf (Elt Ideal) ℓ

variable (m : KMem) (c : Dev Cert.KernelIdeal.nD)

/-- The logits in the kernel's memory. -/
abbrev A0 : FVec Ideal Cert.KernelIdeal.S64x300x91 .f32 := m ((c.tc : Thread Cert.KernelIdeal.nD Cert.KernelIdeal.τ).loc Cert.KernelIdeal.main_arg0)
/-- The predicted boxes in the kernel's memory. -/
abbrev A1 : FVec Ideal Cert.KernelIdeal.S64x300x4 .f32 := m ((c.tc : Thread Cert.KernelIdeal.nD Cert.KernelIdeal.τ).loc Cert.KernelIdeal.main_arg1)
/-- The target boxes in the kernel's memory. -/
abbrev A2 : FVec Ideal Cert.KernelIdeal.S64x20x4 .f32 := m ((c.tc : Thread Cert.KernelIdeal.nD Cert.KernelIdeal.τ).loc Cert.KernelIdeal.main_arg2)
/-- The matched queries in the kernel's memory. -/
abbrev A3 : IVec Cert.KernelIdeal.S64x20 32 := m ((c.tc : Thread Cert.KernelIdeal.nD Cert.KernelIdeal.τ).loc Cert.KernelIdeal.main_arg3)
/-- The labels in the kernel's memory. -/
abbrev A4 : IVec Cert.KernelIdeal.S64x20 32 := m ((c.tc : Thread Cert.KernelIdeal.nD Cert.KernelIdeal.τ).loc Cert.KernelIdeal.main_arg4)

/-- Two arrays of one element are equal when their elements are. -/
theorem scalar_ext (x y : FVec Ideal Cert.ReferenceIdeal.S_ .f32) (h : x ix0 = y ix0) : x = y := by
  funext i
  have : i = ix0 := funext fun a => a.elim0
  rw [this, h]

/-- A one-by-one array recast to a scalar. -/
theorem cast_scalar (x : FVec Ideal Cert.KernelIdeal.S1x1 .f32) :
    (shapeCast Cert.KernelIdeal.S_ x Cert.KernelIdeal.Facts₀.shapeCasts_S1x1_S_ : FVec Ideal Cert.KernelIdeal.S_ .f32) ix0 = x (ix2 0 0) := by
  pointwise []

variable (s : Fin 64 → Fin 20 → Fin 300) (l : Fin 64 → Fin 20 → Fin 91) (xr : Fin 64 → Fin 300 → Fin 91 → ℝ)

/-- The first results are equal: the focal loss. -/
theorem res0 (hs : ∀ b t, A3 m c (ix2 b t) = BitVec.ofNat 32 (s b t).val) (hl : ∀ b t, A4 m c (ix2 b t) = BitVec.ofNat 32 (l b t).val)
    (hx : ∀ b q k, A0 m c (ix3 b q k) = ((xr b q k : ℝ) : EReal)) :
    val_main_v59 (F := Ideal) (A0 m c) (A3 m c) (A4 m c) = shapeCast Cert.KernelIdeal.S_ (ceAt m c 3) Cert.KernelIdeal.Facts₀.shapeCasts_S1x1_S_ := by
  obtain ⟨v, hv, hk⟩ := ceAt_val m c s l xr hs hl hx
  refine scalar_ext _ _ ((?_ : _ = _).trans (cast_scalar _).symm)
  rw [hk]
  refine (v59_val (A0 m c) (A3 m c) (A4 m c) xr v hx (fun b q => (hv b q).le) (fun b q => ?_)).trans ?_
  · obtain ⟨w, hw, h⟩ := v17_at (A3 m c) (A4 m c) s l hs hl b q
    rw [(hv b q).unique hw]; exact h
  · rw [focal_eq]

/-- The second results are equal: the coordinate differences. -/
theorem res1 (hs : ∀ b t, A3 m c (ix2 b t) = BitVec.ofNat 32 (s b t).val) :
    val_main_v67 (F := Ideal) (A1 m c) (A2 m c) (A3 m c) = shapeCast Cert.KernelIdeal.S_ (l1C m c) Cert.KernelIdeal.Facts₀.shapeCasts_S1x1_S_ := by
  refine scalar_ext _ _ ((?_ : _ = _).trans (cast_scalar _).symm)
  rw [l1C_val m c s hs, v67_val, div_pairs]
  refine congrArg (fun z : EReal => z * _) (Eq.trans ?_ (sum_pairs fun b t => l1Pair (A1 m c (ix3 b (s b t) 0)) (A1 m c (ix3 b (s b t) 1)) (A1 m c (ix3 b (s b t) 2))
    (A1 m c (ix3 b (s b t) 3)) (A2 m c (ix3 b t 0)) (A2 m c (ix3 b t 1)) (A2 m c (ix3 b t 2)) (A2 m c (ix3 b t 3))))
  refine Finset.sum_congr rfl fun i _ => ?_
  refine (l1_eq (fun k => val_main_v62 (F := Ideal) (A1 m c) (A3 m c) (ix2 i k)) (fun k => val_main_v63 (F := Ideal) (A2 m c) (ix2 i k))).trans ?_
  simp only [v62_at (A1 m c) (A3 m c) s hs, v63_at]

/-- The third results are equal: the overlap losses. -/
theorem res2 (hs : ∀ b t, A3 m c (ix2 b t) = BitVec.ofNat 32 (s b t).val) (hp : ∀ b q, (∃ r : ℝ, A1 m c (ix3 b q 0) = (r : EReal)) ∧ ∃ r : ℝ, A1 m c (ix3 b q 1) = (r : EReal))
    (hn : ∀ b q, (0 : EReal) ≤ A1 m c (ix3 b q 2) ∧ (0 : EReal) ≤ A1 m c (ix3 b q 3)) :
    val_main_v210 (F := Ideal) (A1 m c) (A2 m c) (A3 m c) = shapeCast Cert.KernelIdeal.S_ (giC m c) Cert.KernelIdeal.Facts₀.shapeCasts_S1x1_S_ := by
  refine scalar_ext _ _ ((?_ : _ = _).trans (cast_scalar _).symm)
  rw [giC_val m c s hs, v210_val, div_pairs]
  refine congrArg (fun z : EReal => z * _) (Eq.trans ?_ (sum_pairs fun b t => giPair (A1 m c (ix3 b (s b t) 0)) (A1 m c (ix3 b (s b t) 1)) (A1 m c (ix3 b (s b t) 2))
    (A1 m c (ix3 b (s b t) 3)) (A2 m c (ix3 b t 0)) (A2 m c (ix3 b t 1)) (A2 m c (ix3 b t 2)) (A2 m c (ix3 b t 3))))
  refine Finset.sum_congr rfl fun i _ => ?_
  obtain ⟨⟨p0, h0⟩, p1, h1⟩ := hp (imgOf i) (s (imgOf i) (slotOf i))
  have hn' := hn (imgOf i) (s (imgOf i) (slotOf i))
  obtain ⟨e0, e1, e2, e3⟩ := v92_at (A1 m c) (A3 m c) i
  obtain ⟨f0, f1, f2, f3⟩ := v117_at (A2 m c) i
  simp only [v62_at (A1 m c) (A3 m c) s hs, v63_at, h0, h1] at e0 e1 e2 e3 f0 f1 f2 f3
  rw [v191_at, e0, e1, e2, e3, f0, f1, f2, f3, h0, h1]
  exact (gi_eq p0 p1 _ _ hn'.1 hn'.2 _ _ _ _).symm

/-- What the precondition gives of the arguments, all at once. -/
theorem decode (h : Cert.Pre_KernelIdeal_well_formed m) :
    (∃ s : Fin 64 → Fin 20 → Fin 300, ∀ b t, A3 m c (ix2 b t) = BitVec.ofNat 32 (s b t).val)
      ∧ (∃ l : Fin 64 → Fin 20 → Fin 91, ∀ b t, A4 m c (ix2 b t) = BitVec.ofNat 32 (l b t).val)
      ∧ (∃ xr : Fin 64 → Fin 300 → Fin 91 → ℝ, ∀ b q k, A0 m c (ix3 b q k) = ((xr b q k : ℝ) : EReal))
      ∧ (∀ b q, (∃ r : ℝ, A1 m c (ix3 b q 0) = (r : EReal)) ∧ ∃ r : ℝ, A1 m c (ix3 b q 1) = (r : EReal))
      ∧ (∀ b q, (0 : EReal) ≤ A1 m c (ix3 b q 2) ∧ (0 : EReal) ≤ A1 m c (ix3 b q 3)) := by
  obtain ⟨h0, h1, h2, h3, h4, h5, h6⟩ := h c
  have q := queries_small _ _ _ _ _ h3 h4
  have k := labels_small _ _ _ _ _ h5 h6
  have r := logits_real _ _ _ _ _ h0
  choose s hs using q
  choose l hl using k
  choose xr hx using r
  exact ⟨⟨s, hs⟩, ⟨l, hl⟩, ⟨xr, hx⟩, centres_real _ _ _ _ _ h1, sizes_nonneg _ _ _ _ _ h2⟩

/-- The kernel and the reference, on equal arguments that satisfy the precondition, end with equal results. -/
theorem algebraic : Cert.algebraic_KernelIdeal_ReferenceIdeal_pre_well_formed := by
  intro m g m' g' hpre hm
  refine ⟨fun c => shapeCast Cert.KernelIdeal.S_ (ceAt m c 3) Cert.KernelIdeal.Facts₀.shapeCasts_S1x1_S_,
    fun c => shapeCast Cert.KernelIdeal.S_ (l1C m c) Cert.KernelIdeal.Facts₀.shapeCasts_S1x1_S_,
    fun c => shapeCast Cert.KernelIdeal.S_ (giC m c) Cert.KernelIdeal.Facts₀.shapeCasts_S1x1_S_, ?_, ?_⟩
  · exact (θ_run Cert.KernelIdeal.defs _ _).mono (fun r h c => ⟨(h.1 c).1, (h.1 c).2.1, (h.1 c).2.2, (h.2.1 c)⟩)
      (θ_run_and (run_values m g) (Cert.KernelIdeal.Hand.frame m g))
  · refine (θ_run Cert.ReferenceIdeal.defs _ _).mono (fun r h c => ?_) (Cert.ReferenceIdeal.Value.run (F := Ideal) m' g')
    obtain ⟨q0, q1, q2, q3⟩ := h c
    obtain ⟨a0, a1, a2, a3, a4⟩ := hm c
    obtain ⟨⟨s, hs⟩, ⟨l, hl⟩, ⟨xr, hx⟩, hp, hn⟩ := decode m c hpre
    refine ⟨?_, ?_, ?_, q3⟩
    · refine q0.trans ((val_main_v59_eq (F := Ideal) (StableHlo.launchContents m' c)).trans ?_)
      show val_main_v59 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) = _
      rw [a0, a3, a4]
      exact res0 m c s l xr hs hl hx
    · refine q1.trans ((val_main_v67_eq (F := Ideal) (StableHlo.launchContents m' c)).trans ?_)
      show val_main_v67 (F := Ideal) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = _
      rw [a1, a2, a3]
      exact res1 m c s hs
    · refine q2.trans ((val_main_v210_eq (F := Ideal) (StableHlo.launchContents m' c)).trans ?_)
      show val_main_v210 (F := Ideal) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3)) = _
      rw [a1, a2, a3]
      exact res2 m c s hs hp hn

/-- The reference runs, leaves its arguments unchanged and has no counter. -/
theorem quiescent_ref : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run (F := Ideal) m g)

end Cert.Alg
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_well_formed
public import proofs.«01_k».proof.Proof.Gen.ReferenceIdeal.Run
public import proofs.«01_k».proof.Proof.Gen.ReferenceIdeal.Read
public import proofs.«01_k».proof.Proof.Gen.Pre_well_formed
public import proofs.«01_k».proof.Proof.Launch
public import proofs.«01_k».proof.Proof.KFrame
public import proofs.«01_k».proof.Proof.Alg
public import Idealize.ShloMosaic.Adequacy
public import Idealize.ShloMosaic.Init

@[expose] public section

noncomputable section

namespace Cert.Proof

open Idealize.ShloMosaic Idealize.SL.Sem Cert.Kernel

/-- Every claim: the frames of the kernel, of the ideal kernel and of the reference (with and without the precondition),
    the named constant, and the equality of the three results. -/
theorem claim : Cert.Claim := ⟨Cert.Kernel.Gen.facts, Cert.KernelIdeal.Gen.facts, Cert.ReferenceIdeal.Gen.facts, Cert.Pre_well_formed.Gen.facts,
  Cert.Kernel.Hand.frame,
  fun m g _ => Cert.KernelIdeal.Hand.frame m g,
  fun m g _ => Cert.KernelIdeal.Hand.frame m g,
  Cert.Alg.quiescent_ref,
  fun m g _ => Cert.Alg.quiescent_ref m g trivial,
  IdealRules.named_const.statement Cert.KernelIdeal.κ "inv_nb" .f32 0x3A4CCCCD#32 ((1 / 1280 : ℝ) : EReal) rfl,
  Cert.Alg.algebraic⟩

end Cert.Proof

end
